-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_logits.lean ====
abbrev S2x8192x1024 : Shape := ⟨3, ![2, 8192, 1024]⟩
abbrev S2x8192x512 : Shape := ⟨3, ![2, 8192, 512]⟩
abbrev S32x16 : Shape := ⟨2, ![32, 16]⟩
abbrev S16 : Shape := ⟨1, ![16]⟩
abbrev S_ : Shape := ⟨0, ![]⟩
abbrev S2x8192x256 : Shape := ⟨3, ![2, 8192, 256]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  slices_S2x8192x512_S2x8192x256_0_0_0 : S2x8192x512.Slices ![0, 0, 0] S2x8192x256
  bcast_S_S2x8192x256 : S_.BroadcastsInDim S2x8192x256 (![] : Fin 0 → Fin S2x8192x256.rank)
  reducesTo_S2x8192x256_S_d0_1_2 : S2x8192x256.ReducesTo [0, 1, 2] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v15 : IVec S_ 1) (main_v16 : FVec F S16 .f32) (main_cst_4 : FVec F S_ .f32) : IVec S_ 1 :=
  let main_v17 : FVec F S16 .f32 := broadcastInDim S16 ![] bcast_S_S16 main_cst_4
  let main_v18 : IVec S16 1 := cmpf .olt main_v16 main_v17
  let main_c_5 : IVec S_ 1 := constantI S_ 1 1#1
  let main_v19 : IVec S_ 1 := (fun x v => Host.reduce IntOp.andi x v reducesTo_S16_S_d0 h_S_) main_v18 main_c_5
  let main_v20 : IVec S_ 1 := andi main_v15 main_v19
  main_v20

def fn {F : FTy → Type} [FloatOps F] (main_arg0 : FVec F S2x8192x1024 .bf16) (main_arg1 : FVec F S2x8192x512 .f32) (main_arg2 : FVec F S32x16 .f32) (main_arg3 : FVec F S16 .f32) : IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S2x8192x256 .f32 := (extractStridedSlice S2x8192x256 ![0, 0, 0] · slices_S2x8192x512_S2x8192x256_0_0_0) main_arg1
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v4 main_v9
  let main_v11 : FVec F S32x16 .f32 := Host.absf main_arg2
  let main_cst_2 : FVec F S_ .f32 := constant S_ .f32 0x7F800000#32
  let main_v12 : FVec F S32x16 .f32 := broadcastInDim S32x16 ![] bcast_S_S32x16 main_cst_2
  let main_v13 : IVec S32x16 1 := cmpf .olt main_v11 main_v12
  let main_c_3 : IVec S_ 1 := constantI S_ 1 1#1
  let main_v14 : IVec S_ 1 := (fun x v => Host.reduce IntOp.andi x v reducesTo_S32x16_S_d0_1 h_S_) main_v13 main_c_3
  let main_v15 : IVec S_ 1 := andi main_v10 main_v14
  let main_v16 : FVec F S16 .f32 := Host.absf main_arg3
  let main_cst_4 : FVec F S_ .f32 := constant S_ .f32 0x7F800000#32
  fn_part1 (F := F) main_v15 main_v16 main_cst_4
-- ==== Kernel.lean ====
abbrev S2x8192x1024 : Shape := ⟨3, ![2, 8192, 1024]⟩
abbrev S2x8192x512 : Shape := ⟨3, ![2, 8192, 512]⟩
abbrev S32x16 : Shape := ⟨2, ![32, 16]⟩
abbrev S16 : Shape := ⟨1, ![16]⟩
abbrev S512 : Shape := ⟨1, ![512]⟩
abbrev S1x1024x1024 : Shape := ⟨3, ![1, 1024, 1024]⟩
abbrev S1x1024x512 : Shape := ⟨3, ![1, 1024, 512]⟩
abbrev S1x128x512 : Shape := ⟨3, ![1, 128, 512]⟩
abbrev S8x256x256 : Shape := ⟨3, ![8, 256, 256]⟩
abbrev S8x8x256 : Shape := ⟨3, ![8, 8, 256]⟩
abbrev S256x128 : Shape := ⟨2, ![256, 128]⟩
abbrev S1 : Shape := ⟨1, ![1]⟩
abbrev S1x256x128 : Shape := ⟨3, ![1, 256, 128]⟩
abbrev S8x128 : Shape := ⟨2, ![8, 128]⟩
abbrev S1x8x128 : Shape := ⟨3, ![1, 8, 128]⟩
abbrev S256x256 : Shape := ⟨2, ![256, 256]⟩
abbrev S128x512 : Shape := ⟨2, ![128, 512]⟩
abbrev S1024x512 : Shape := ⟨2, ![1024, 512]⟩
abbrev S1152x512 : Shape := ⟨2, ![1152, 512]⟩
abbrev S1152x128 : Shape := ⟨2, ![1152, 128]⟩
abbrev S128x1152 : Shape := ⟨2, ![128, 1152]⟩
abbrev S1x128x128 : Shape := ⟨3, ![1, 128, 128]⟩
abbrev S128x128 : Shape := ⟨2, ![128, 128]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩

abbrev nBuf : Space → Nat
  | .hbm => 6
  | .vmem => 10
  | .smem => 2
  | _ => 0

abbrev bufTy : (tb : Table) → Fin (tcTables nBuf tb) → BufTy
  | .hbm, ⟨0, _⟩ => ⟨S2x8192x1024, .bf16⟩
  | .hbm, ⟨1, _⟩ => ⟨S2x8192x512, .f32⟩
  | .hbm, ⟨2, _⟩ => ⟨S32x16, .f32⟩
  | .hbm, ⟨3, _⟩ => ⟨S16, .f32⟩
  | .hbm, ⟨4, _⟩ => ⟨S512, .f32⟩
  | .hbm, ⟨5, _⟩ => ⟨S2x8192x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x128x512, .f32⟩
  | .local _ .vmem, ⟨5, _⟩ => ⟨S1x128x512, .f32⟩
  | .local _ .vmem, ⟨6, _⟩ => ⟨S1x1024x1024, .bf16⟩
  | .local _ .vmem, ⟨7, _⟩ => ⟨S1x1024x1024, .bf16⟩
  | .local _ .vmem, ⟨8, _⟩ => ⟨S8x256x256, .f32⟩
  | .local _ .vmem, ⟨9, _⟩ => ⟨S8x8x256, .f32⟩
  | .local _ .smem, ⟨0, _⟩ => ⟨S512, .f32⟩
  | .local _ .smem, ⟨1, _⟩ => ⟨S16, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S2x8192x512 : Shape := ⟨3, ![2, 8192, 512]⟩
abbrev S32x16 : Shape := ⟨2, ![32, 16]⟩
abbrev S16 : Shape := ⟨1, ![16]⟩
abbrev S2x8192x256 : Shape := ⟨3, ![2, 8192, 256]⟩
abbrev S2x8192x4x4x64 : Shape := ⟨5, ![2, 8192, 4, 4, 64]⟩
abbrev S2x8192x4x64 : Shape := ⟨4, ![2, 8192, 4, 64]⟩
abbrev S2x64x128x4x4x64 : Shape := ⟨6, ![2, 64, 128, 4, 4, 64]⟩
abbrev S2x128x4x64 : Shape := ⟨4, ![2, 128, 4, 64]⟩
abbrev S_ : Shape := ⟨0, ![]⟩
abbrev S2x8320x4x64 : Shape := ⟨4, ![2, 8320, 4, 64]⟩
abbrev S2x65x128x4x64 : Shape := ⟨5, ![2, 65, 128, 4, 64]⟩
abbrev S2x64x128x4x64 : Shape := ⟨5, ![2, 64, 128, 4, 64]⟩
abbrev S2x64x256x4x64 : Shape := ⟨5, ![2, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S128x256x1 : Shape := ⟨3, ![128, 256, 1]⟩
abbrev S1 : Shape := ⟨1, ![1]⟩
abbrev S1x1x1 : Shape := ⟨3, ![1, 1, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S2x64x4x256x128x4 : Shape := ⟨6, ![2, 64, 4, 256, 128, 4]⟩
abbrev S2x64x4x4x128x256 : Shape := ⟨6, ![2, 64, 4, 4, 128, 256]⟩
abbrev S1x1x4x4x128x256 : Shape := ⟨6, ![1, 1, 4, 4, 128, 256]⟩
abbrev S4x4x1x1 : Shape := ⟨4, ![4, 4, 1, 1]⟩
abbrev S2x64x4x4x128 : Shape := ⟨5, ![2, 64, 4, 4, 128]⟩
abbrev S2x64x4x4x128x1 : Shape := ⟨6, ![2, 64, 4, 4, 128, 1]⟩
abbrev S1x1x4x4x1x1 : Shape := ⟨6, ![1, 1, 4, 4, 1, 1]⟩
abbrev S2x64x4x64x4x128 : Shape := ⟨6, ![2, 64, 4, 64, 4, 128]⟩

abbrev nBuf : Space → Nat
  | .hbm => 152
  | .vmem => 0
  | .smem => 0
  | _ => 0

abbrev hbmTy0_0 (i : Nat) : BufTy := match i % 128 with
  | 0 => ⟨S2x8192x1024, .bf16⟩
  | 1 => ⟨S2x8192x512, .f32⟩
  | 2 => ⟨S32x16, .f32⟩
  | 3 => ⟨S16, .f32⟩
  | 4 => ⟨S2x8192x256, .f32⟩
  | 5 => ⟨S2x8192x256, .f32⟩
  | 6 => ⟨S2x8192x1024, .f32⟩
  | 7 => ⟨S2x8192x4x4x64, .f32⟩
  | 8 => ⟨S2x8192x4x64, .f32⟩
  | 9 => ⟨S2x8192x4x64, .f32⟩
  | 10 => ⟨S2x64x128x4x4x64, .f32⟩
  | 11 => ⟨S2x128x4x64, .f32⟩
  | 12 => ⟨S_, .f32⟩
  | 13 => ⟨S2x128x4x64, .f32⟩
  | 14 => ⟨S2x8320x4x64, .f32⟩
  | 15 => ⟨S2x65x128x4x64, .f32⟩
  | 16 => ⟨S2x128x4x64, .f32⟩
  | 17 => ⟨S_, .f32⟩
  | 18 => ⟨S2x128x4x64, .f32⟩
  | 19 => ⟨S2x8320x4x64, .f32⟩
  | 20 => ⟨S2x65x128x4x64, .f32⟩
  | 21 => ⟨S2x64x128x4x64, .f32⟩
  | 22 => ⟨S2x64x128x4x64, .f32⟩
  | 23 => ⟨S2x64x256x4x64, .f32⟩
  | 24 => ⟨S2x64x128x4x64, .f32⟩
  | 25 => ⟨S2x64x128x4x64, .f32⟩
  | 26 => ⟨S2x64x256x4x64, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S64, .i32⟩
  | 45 => ⟨S64x1x1, .i32⟩
  | 46 => ⟨S_, .i32⟩
  | 47 => ⟨S64x1x1, .i32⟩
  | 48 => ⟨S64x1x1, .i32⟩
  | 49 => ⟨S_, .i32⟩
  | 50 => ⟨S64x1x1, .i32⟩
  | 51 => ⟨S64x1x1, .i32⟩
  | 52 => ⟨S1x1x256, .i32⟩
  | 53 => ⟨S64x1x256, .i32⟩
  | 54 => ⟨S64x1x256, .i32⟩
  | 55 => ⟨S64x1x256, .i32⟩
  | 56 => ⟨S1x128x256, .i1⟩
  | 57 => ⟨S_, .i32⟩
  | 58 => ⟨S64x1x256, .i32⟩
  | 59 => ⟨S64x1x256, .i1⟩
  | 60 => ⟨S64x128x256, .i1⟩
  | 61 => ⟨S64x128x256, .i1⟩
  | 62 => ⟨S64x128x256, .i1⟩
  | 63 => ⟨S64x1x1x128x256, .i1⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S128x256, .f32⟩
  | 71 => ⟨S_, .f32⟩
  | 72 => ⟨S128x256, .f32⟩
  | 73 => ⟨S128x256, .f32⟩
  | 74 => ⟨S128x256, .f32⟩
  | 75 => ⟨S_, .f32⟩
  | 76 => ⟨S_, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S128x256, .i32⟩
  | 93 => ⟨S_, .i32⟩
  | 94 => ⟨S128x256, .i32⟩
  | 95 => ⟨S128x256, .i1⟩
  | 96 => ⟨S_, .i32⟩
  | 97 => ⟨S128x256, .i32⟩
  | 98 => ⟨S128x256, .i32⟩
  | 99 => ⟨S128x256, .i32⟩
  | 100 => ⟨S128x256x1, .i32⟩
  | 101 => ⟨S1, .i32⟩
  | 102 => ⟨S_, .i32⟩
  | 103 => ⟨S128x256x1, .i32⟩
  | 104 => ⟨S128x256x1, .i1⟩
  | 105 => ⟨S1x1x1, .i32⟩
  | 106 => ⟨S128x256x1, .i32⟩
  | 107 => ⟨S128x256x1, .i1⟩
  | 108 => ⟨S128x256x1, .i1⟩
  | 109 => ⟨S_, .i1⟩
  | 110 => ⟨S128x256, .i1⟩
  | 111 => ⟨S128x256x16, .f32⟩
  | 112 => ⟨S128x256x16, .i1⟩
  | 113 => ⟨S_, .f32⟩
  | 114 => ⟨S128x256x16, .f32⟩
  | 115 => ⟨S128x256x16, .f32⟩
  | 116 => ⟨S16x128x256, .f32⟩
  | 117 => ⟨S4x4x128x256, .f32⟩
  | 118 => ⟨S2x64x4x256x128x4, .f32⟩
  | 119 => ⟨S2x64x4x4x128x256, .f32⟩
  | 120 => ⟨S1x1x4x4x128x256, .f32⟩
  | 121 => ⟨S2x64x4x4x128x256, .f32⟩
  | 122 => ⟨S2x64x4x4x128x256, .f32⟩
  | 123 => ⟨S_, .f32⟩
  | 124 => ⟨S_, .f32⟩
  | 125 => ⟨S2x64x4x4x128x256, .i1⟩
  | 126 => ⟨S2x64x4x4x128x256, .f32⟩
  | 127 => ⟨S2x64x4x4x128x256, .f32⟩
  | _ => ⟨S2x8192x1024, .bf16⟩

abbrev hbmTy0_1 (i : Nat) : BufTy := match i % 128 with
  | 0 => ⟨S4x4x1x1, .f32⟩
  | 1 => ⟨S_, .f32⟩
  | 2 => ⟨S2x64x4x4x128, .f32⟩
  | 3 => ⟨S2x64x4x4x128x1, .f32⟩
  | 4 => ⟨S1x1x4x4x1x1, .f32⟩
  | 5 => ⟨S2x64x4x4x128x1, .f32⟩
  | 6 => ⟨S2x64x4x4x128x1, .f32⟩
  | 7 => ⟨S2x64x4x4x128x256, .f32⟩
  | 8 => ⟨S2x64x4x4x128x256, .f32⟩
  | 9 => ⟨S2x64x4x4x128x256, .f32⟩
  | 10 => ⟨S_, .f32⟩
  | 11 => ⟨S2x64x4x4x128, .f32⟩
  | 12 => ⟨S2x64x4x4x128x1, .f32⟩
  | 13 => ⟨S1x1x4x4x1x1, .f32⟩
  | 14 => ⟨S2x64x4x4x128x1, .f32⟩
  | 15 => ⟨S2x64x4x4x128x1, .f32⟩
  | 16 => ⟨S2x64x4x4x128x1, .f32⟩
  | 17 => ⟨S2x64x4x4x128x1, .f32⟩
  | 18 => ⟨S2x64x4x4x128x256, .f32⟩
  | 19 => ⟨S2x64x4x4x128x256, .f32⟩
  | 20 => ⟨S2x64x4x64x4x128, .f32⟩
  | 21 => ⟨S2x64x128x4x4x64, .f32⟩
  | 22 => ⟨S2x8192x1024, .f32⟩
  | 23 => ⟨S2x8192x1024, .bf16⟩
  | _ => ⟨S2x8192x1024, .bf16⟩

abbrev hbmTy (i : Nat) : BufTy := match i / 128 with
  | 0 => hbmTy0_0 i
  | 1 => hbmTy0_1 i
  | _ => ⟨S2x8192x1024, .bf16⟩

abbrev bufTy : (tb : Table) → Fin (tcTables nBuf tb) → BufTy
  | .hbm, ⟨i, _⟩ => hbmTy i
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_11 : Ref sig .tc := ⟨.hbm, 83, rfl⟩
abbrev main_v66 : Ref sig .tc := ⟨.hbm, 84, rfl⟩
abbrev main_v67 : Ref sig .tc := ⟨.hbm, 85, rfl⟩
abbrev main_c_12 : Ref sig .tc := ⟨.hbm, 86, rfl⟩
abbrev main_v68 : Ref sig .tc := ⟨.hbm, 87, rfl⟩
abbrev main_v69 : Ref sig .tc := ⟨.hbm, 88, rfl⟩
abbrev main_c_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_14 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v81 : Ref sig .tc := ⟨.hbm, 127, rfl⟩
abbrev main_v82 : Ref sig .tc := ⟨.hbm, 128, rfl⟩
abbrev main_cst_15 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_16 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩

abbrev nD : Nat := 1
abbrev τ : Topo := Topo.v7x

variable {F : FTy → Type} [FloatOps F]
-- ==== Kernel2.lean ====
abbrev S16384x2048 : Shape := ⟨2, ![16384, 2048]⟩
abbrev S2x8192x2048 : Shape := ⟨3, ![2, 8192, 2048]⟩
abbrev S136x12288 : Shape := ⟨2, ![136, 12288]⟩
abbrev S2048x8192 : Shape := ⟨2, ![2048, 8192]⟩
abbrev S8192x2048 : Shape := ⟨2, ![8192, 2048]⟩
abbrev S2048 : Shape := ⟨1, ![2048]⟩
abbrev S136x1x12288 : Shape := ⟨3, ![136, 1, 12288]⟩
abbrev S1x2048 : Shape := ⟨2, ![1, 2048]⟩
abbrev S1024x2048 : Shape := ⟨2, ![1024, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S512x2048 : Shape := ⟨2, ![512, 2048]⟩
abbrev S1024x512 : Shape := ⟨2, ![1024, 512]⟩
abbrev S1x256x2048 : Shape := ⟨3, ![1, 256, 2048]⟩
abbrev S256x512 : Shape := ⟨2, ![256, 512]⟩
abbrev S256x2048 : Shape := ⟨2, ![256, 2048]⟩
abbrev S1x256 : Shape := ⟨2, ![1, 256]⟩
abbrev S1x256x1 : Shape := ⟨3, ![1, 256, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S2x8192x2048, .f32⟩
  | .hbm, ⟨2, _⟩ => ⟨S136x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S136x1x12288, .f32⟩
  | .hbm, ⟨8, _⟩ => ⟨S1x2048, .f32⟩
  | .hbm, ⟨9, _⟩ => ⟨S1x2048, .f32⟩
  | .hbm, ⟨10, _⟩ => ⟨S2x8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c5_i32 : BitVec 32 := 5#32
  let c0_i32_5 : BitVec 32 := 0#32
  ![v17.toNat, c0_i32_4.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2x8192x2048 : Shape := ⟨3, ![2, 8192, 2048]⟩
abbrev S136x12288 : Shape := ⟨2, ![136, 12288]⟩
abbrev S2048x8192 : Shape := ⟨2, ![2048, 8192]⟩
abbrev S8192x2048 : Shape := ⟨2, ![8192, 2048]⟩
abbrev S2048 : Shape := ⟨1, ![2048]⟩
abbrev S2x2048 : Shape := ⟨2, ![2, 2048]⟩
abbrev S2x1x2048 : Shape := ⟨3, ![2, 1, 2048]⟩
abbrev S2x8192x8192 : Shape := ⟨3, ![2, 8192, 8192]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192x2048, .f32⟩
  | .hbm, ⟨2, _⟩ => ⟨S136x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S2x2048, .f32⟩
  | .hbm, ⟨8, _⟩ => ⟨S2x1x2048, .f32⟩
  | .hbm, ⟨9, _⟩ => ⟨S16384x2048, .f32⟩
  | .hbm, ⟨10, _⟩ => ⟨S2x8192x2048, .f32⟩
  | .hbm, ⟨11, _⟩ => ⟨S2048x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S2x8192x8192, .f32⟩
  | .hbm, ⟨17, _⟩ => ⟨S8192x2048, .f32⟩
  | .hbm, ⟨18, _⟩ => ⟨S2x8192x2048, .f32⟩
  | .hbm, ⟨19, _⟩ => ⟨S_, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S1x1x2048, .f32⟩
  | .hbm, ⟨52, _⟩ => ⟨S2x8192x2048, .f32⟩
  | .hbm, ⟨53, _⟩ => ⟨S2x8192x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel3.lean ====
abbrev S2x8192x2048 : Shape := ⟨3, ![2, 8192, 2048]⟩
abbrev S136x12288 : Shape := ⟨2, ![136, 12288]⟩
abbrev S2048x4608 : Shape := ⟨2, ![2048, 4608]⟩
abbrev S3x1024 : Shape := ⟨2, ![3, 1024]⟩
abbrev S2048x2048 : Shape := ⟨2, ![2048, 2048]⟩
abbrev S2048x8192 : Shape := ⟨2, ![2048, 8192]⟩
abbrev S8192x2048 : Shape := ⟨2, ![8192, 2048]⟩
abbrev S136x1x12288 : Shape := ⟨3, ![136, 1, 12288]⟩
abbrev S16384x1024 : Shape := ⟨2, ![16384, 1024]⟩
abbrev S16384x512 : Shape := ⟨2, ![16384, 512]⟩
abbrev S2x8x1024 : Shape := ⟨3, ![2, 8, 1024]⟩
abbrev S1x512x2048 : Shape := ⟨3, ![1, 512, 2048]⟩
abbrev S1x1x2048 : Shape := ⟨3, ![1, 1, 2048]⟩
abbrev S64x2048 : Shape := ⟨2, ![64, 2048]⟩
abbrev S64x8192 : Shape := ⟨2, ![64, 8192]⟩
abbrev S256x2048 : Shape := ⟨2, ![256, 2048]⟩
abbrev S512x1024 : Shape := ⟨2, ![512, 1024]⟩
abbrev S512x512 : Shape := ⟨2, ![512, 512]⟩
abbrev S1x8x1024 : Shape := ⟨3, ![1, 8, 1024]⟩
abbrev S8x1024 : Shape := ⟨2, ![8, 1024]⟩
abbrev S1x512 : Shape := ⟨2, ![1, 512]⟩
abbrev S1x512x1 : Shape := ⟨3, ![1, 512, 1]⟩
abbrev S512x2048 : Shape := ⟨2, ![512, 2048]⟩
abbrev S2048x1024 : Shape := ⟨2, ![2048, 1024]⟩
abbrev S2048x512 : Shape := ⟨2, ![2048, 512]⟩
abbrev S1x512x1024 : Shape := ⟨3, ![1, 512, 1024]⟩
abbrev S2x1024 : Shape := ⟨2, ![2, 1024]⟩
abbrev S1x2x1024 : Shape := ⟨3, ![1, 2, 1024]⟩
abbrev S1x1x1024 : Shape := ⟨3, ![1, 1, 1024]⟩
abbrev S1x1024 : Shape := ⟨2, ![1, 1024]⟩

abbrev nBuf : Space → Nat
  | .hbm => 15
  | .vmem => 29
  | .smem => 0
  | _ => 0

abbrev bufTy : (tb : Table) → Fin (tcTables nBuf tb) → BufTy
  | .hbm, ⟨0, _⟩ => ⟨S2x8192x2048, .f32⟩
  | .hbm, ⟨1, _⟩ => ⟨S136x12288, .f32⟩
  | .hbm, ⟨2, _⟩ => ⟨S2048x4608, .bf16⟩
  | .hbm, ⟨3, _⟩ => ⟨S3x1024, .f32⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S136x1x12288, .f32⟩
  | .hbm, ⟨8, _⟩ => ⟨S16384x1024, .bf16⟩
  | .hbm, ⟨9, _⟩ => ⟨S16384x512, .f32⟩
  | .hbm, ⟨10, _⟩ => ⟨S16384x1024, .bf16⟩
  | .hbm, ⟨11, _⟩ => ⟨S2x8x1024, .f32⟩
  | .hbm, ⟨12, _⟩ => ⟨S2048x2048, .bf16⟩
  | .hbm, ⟨13, _⟩ => ⟨S2048x8192, .bf16⟩
  | .hbm, ⟨14, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x4608, .bf16⟩
  | .local _ .vmem, ⟨7, _⟩ => ⟨S3x1024, .f32⟩
  | .local _ .vmem, ⟨8, _⟩ => ⟨S64x2048, .f32⟩
  | .local _ .vmem, ⟨9, _⟩ => ⟨S64x2048, .f32⟩
  | .local _ .vmem, ⟨10, _⟩ => ⟨S64x8192, .f32⟩
  | .local _ .vmem, ⟨11, _⟩ => ⟨S64x8192, .f32⟩
  | .local _ .vmem, ⟨12, _⟩ => ⟨S256x2048, .f32⟩
  | .local _ .vmem, ⟨13, _⟩ => ⟨S256x2048, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S1x8x1024, .f32⟩
  | .local _ .vmem, ⟨21, _⟩ => ⟨S1x8x1024, .f32⟩
  | .local _ .vmem, ⟨22, _⟩ => ⟨S64x2048, .bf16⟩
  | .local _ .vmem, ⟨23, _⟩ => ⟨S64x2048, .bf16⟩
  | .local _ .vmem, ⟨24, _⟩ => ⟨S64x8192, .bf16⟩
  | .local _ .vmem, ⟨25, _⟩ => ⟨S64x8192, .bf16⟩
  | .local _ .vmem, ⟨26, _⟩ => ⟨S256x2048, .bf16⟩
  | .local _ .vmem, ⟨27, _⟩ => ⟨S256x2048, .bf16⟩
  | .local _ .vmem, ⟨28, _⟩ => ⟨S8x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x8192x2048 : Shape := ⟨3, ![2, 8192, 2048]⟩
abbrev S136x12288 : Shape := ⟨2, ![136, 12288]⟩
abbrev S2048x4608 : Shape := ⟨2, ![2048, 4608]⟩
abbrev S3x1024 : Shape := ⟨2, ![3, 1024]⟩
abbrev S2048x2048 : Shape := ⟨2, ![2048, 2048]⟩
abbrev S2048x8192 : Shape := ⟨2, ![2048, 8192]⟩
abbrev S8192x2048 : Shape := ⟨2, ![8192, 2048]⟩
abbrev S2x2048 : Shape := ⟨2, ![2, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S2x8192x4608 : Shape := ⟨3, ![2, 8192, 4608]⟩
abbrev S2x8192x1024 : Shape := ⟨3, ![2, 8192, 1024]⟩
abbrev S2x8192x512 : Shape := ⟨3, ![2, 8192, 512]⟩
abbrev S2x2x1024 : Shape := ⟨3, ![2, 2, 1024]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩
abbrev S16384x512 : Shape := ⟨2, ![16384, 512]⟩
abbrev S2x8x1024 : Shape := ⟨3, ![2, 8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S136x12288, .f32⟩
  | .hbm, ⟨2, _⟩ => ⟨S2048x4608, .bf16⟩
  | .hbm, ⟨3, _⟩ => ⟨S3x1024, .f32⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S2048x4608, .f32⟩
  | .hbm, ⟨42, _⟩ => ⟨S2x8192x4608, .f32⟩
  | .hbm, ⟨43, _⟩ => ⟨S2x8192x1024, .f32⟩
  | .hbm, ⟨44, _⟩ => ⟨S2x8192x512, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192x1024, .f32⟩
  | .hbm, ⟨50, _⟩ => ⟨S2x8192x1024, .f32⟩
  | .hbm, ⟨51, _⟩ => ⟨S2x8192x1024, .bf16⟩
  | .hbm, ⟨52, _⟩ => ⟨S2x8192x1024, .f32⟩
  | .hbm, ⟨53, _⟩ => ⟨S_, .f32⟩
  | .hbm, ⟨54, _⟩ => ⟨S2x2x1024, .f32⟩
  | .hbm, ⟨55, _⟩ => ⟨S2x8194x1024, .f32⟩
  | .hbm, ⟨56, _⟩ => ⟨S1x1024, .f32⟩
  | .hbm, ⟨57, _⟩ => ⟨S1024, .f32⟩
  | .hbm, ⟨58, _⟩ => ⟨S2x8192x1024, .f32⟩
  | .hbm, ⟨59, _⟩ => ⟨S1x1x1024, .f32⟩
  | .hbm, ⟨60, _⟩ => ⟨S2x8192x1024, .f32⟩
  | .hbm, ⟨61, _⟩ => ⟨S2x8192x1024, .f32⟩
  | .hbm, ⟨62, _⟩ => ⟨S1x1024, .f32⟩
  | .hbm, ⟨63, _⟩ => ⟨S1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S1x1024, .f32⟩
  | .hbm, ⟨70, _⟩ => ⟨S1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S2x8192x1024, .bf16⟩
  | .hbm, ⟨78, _⟩ => ⟨S16384x1024, .bf16⟩
  | .hbm, ⟨79, _⟩ => ⟨S16384x512, .f32⟩
  | .hbm, ⟨80, _⟩ => ⟨S16384x1024, .bf16⟩
  | .hbm, ⟨81, _⟩ => ⟨S2x8x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Kernel4.lean ====
abbrev S1024x2048 : Shape := ⟨2, ![1024, 2048]⟩
abbrev S128x8x2048 : Shape := ⟨3, ![128, 8, 2048]⟩
abbrev S136x12288 : Shape := ⟨2, ![136, 12288]⟩
abbrev S2048x8192 : Shape := ⟨2, ![2048, 8192]⟩
abbrev S8192x2048 : Shape := ⟨2, ![8192, 2048]⟩
abbrev S2048 : Shape := ⟨1, ![2048]⟩
abbrev S136x1x12288 : Shape := ⟨3, ![136, 1, 12288]⟩
abbrev S1x2048 : Shape := ⟨2, ![1, 2048]⟩
abbrev S128x1x2048 : Shape := ⟨3, ![128, 1, 2048]⟩
abbrev S2048x512 : Shape := ⟨2, ![2048, 512]⟩
abbrev S512x2048 : Shape := ⟨2, ![512, 2048]⟩
abbrev S1024x512 : Shape := ⟨2, ![1024, 512]⟩
abbrev S32x8x2048 : Shape := ⟨3, ![32, 8, 2048]⟩
abbrev S256x512 : Shape := ⟨2, ![256, 512]⟩
abbrev S256x2048 : Shape := ⟨2, ![256, 2048]⟩
abbrev S32x1x2048 : Shape := ⟨3, ![32, 1, 2048]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 11
  | .vmem => 10
  | .smem => 0
  | _ => 0

abbrev bufTy : (tb : Table) → Fin (tcTables nBuf tb) → BufTy
  | .hbm, ⟨0, _⟩ => ⟨S1024x2048, .bf16⟩
  | .hbm, ⟨1, _⟩ => ⟨S128x8x2048, .f32⟩
  | .hbm, ⟨2, _⟩ => ⟨S136x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S136x1x12288, .f32⟩
  | .hbm, ⟨8, _⟩ => ⟨S1x2048, .f32⟩
  | .hbm, ⟨9, _⟩ => ⟨S1x2048, .f32⟩
  | .hbm, ⟨10, _⟩ => ⟨S128x8x2048, .f32⟩
  | .local _ .vmem, ⟨0, _⟩ => ⟨S1024x2048, .bf16⟩
  | .local _ .vmem, ⟨1, _⟩ => ⟨S128x8x2048, .f32⟩
  | .local _ .vmem, ⟨2, _⟩ => ⟨S128x1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S128x8x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference4Ideal.lean ====
abbrev S1024x2048 : Shape := ⟨2, ![1024, 2048]⟩
abbrev S128x8x2048 : Shape := ⟨3, ![128, 8, 2048]⟩
abbrev S136x12288 : Shape := ⟨2, ![136, 12288]⟩
abbrev S2048x8192 : Shape := ⟨2, ![2048, 8192]⟩
abbrev S8192x2048 : Shape := ⟨2, ![8192, 2048]⟩
abbrev S2048 : Shape := ⟨1, ![2048]⟩
abbrev S128x2048 : Shape := ⟨2, ![128, 2048]⟩
abbrev S128x1x2048 : Shape := ⟨3, ![128, 1, 2048]⟩
abbrev S128x8x8192 : Shape := ⟨3, ![128, 8, 8192]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S128x8x2048, .f32⟩
  | .hbm, ⟨2, _⟩ => ⟨S136x12288, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S128x2048, .f32⟩
  | .hbm, ⟨8, _⟩ => ⟨S128x1x2048, .f32⟩
  | .hbm, ⟨9, _⟩ => ⟨S1024x2048, .f32⟩
  | .hbm, ⟨10, _⟩ => ⟨S128x8x2048, .f32⟩
  | .hbm, ⟨11, _⟩ => ⟨S2048x8192, .f32⟩
  | .hbm, ⟨12, _⟩ => ⟨S128x8x8192, .f32⟩
  | .hbm, ⟨13, _⟩ => ⟨S_, .f32⟩
  | .hbm, ⟨14, _⟩ => ⟨S128x8x8192, .f32⟩
  | .hbm, ⟨15, _⟩ => ⟨S128x8x8192, .f32⟩
  | .hbm, ⟨16, _⟩ => ⟨S128x8x8192, .f32⟩
  | .hbm, ⟨17, _⟩ => ⟨S8192x2048, .f32⟩
  | .hbm, ⟨18, _⟩ => ⟨S128x8x2048, .f32⟩
  | .hbm, ⟨19, _⟩ => ⟨S_, .f32⟩
  | .hbm, ⟨20, _⟩ => ⟨S128x8x2048, .f32⟩
  | .hbm, ⟨21, _⟩ => ⟨S128x8x2048, .f32⟩
  | .hbm, ⟨22, _⟩ => ⟨S128x8x2048, .f32⟩
  | .hbm, ⟨23, _⟩ => ⟨S128x8x2048, .f32⟩
  | .hbm, ⟨24, _⟩ => ⟨S128x8x2048, .f32⟩
  | .hbm, ⟨25, _⟩ => ⟨S_, .f32⟩
  | .hbm, ⟨26, _⟩ => ⟨S128x8, .f32⟩
  | .hbm, ⟨27, _⟩ => ⟨S128x8x1, .f32⟩
  | .hbm, ⟨28, _⟩ => ⟨S_, .f32⟩
  | .hbm, ⟨29, _⟩ => ⟨S128x8x1, .f32⟩
  | .hbm, ⟨30, _⟩ => ⟨S128x8x1, .f32⟩
  | .hbm, ⟨31, _⟩ => ⟨S128x8x2048, .f32⟩
  | .hbm, ⟨32, _⟩ => ⟨S128x8x2048, .f32⟩
  | .hbm, ⟨33, _⟩ => ⟨S128x8x2048, .f32⟩
  | .hbm, ⟨34, _⟩ => ⟨S_, .f32⟩
  | .hbm, ⟨35, _⟩ => ⟨S128x8, .f32⟩
  | .hbm, ⟨36, _⟩ => ⟨S128x8x1, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x2048, .f32⟩
  | .hbm, ⟨41, _⟩ => ⟨S128x8x2048, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S128x8x1, .f32⟩
  | .hbm, ⟨46, _⟩ => ⟨S128x8x2048, .f32⟩
  | .hbm, ⟨47, _⟩ => ⟨S128x8x2048, .f32⟩
  | .hbm, ⟨48, _⟩ => ⟨S1x1x2048, .f32⟩
  | .hbm, ⟨49, _⟩ => ⟨S128x8x2048, .f32⟩
  | .hbm, ⟨50, _⟩ => ⟨S128x8x2048, .f32⟩
  | .hbm, ⟨51, _⟩ => ⟨S1x1x2048, .f32⟩
  | .hbm, ⟨52, _⟩ => ⟨S128x8x2048, .f32⟩
  | .hbm, ⟨53, _⟩ => ⟨S128x8x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel5.lean ====
abbrev S16384x1024 : Shape := ⟨2, ![16384, 1024]⟩
abbrev S2x8192x2048 : Shape := ⟨3, ![2, 8192, 2048]⟩
abbrev S136x12288 : Shape := ⟨2, ![136, 12288]⟩
abbrev S2048x2048 : Shape := ⟨2, ![2048, 2048]⟩
abbrev S2048 : Shape := ⟨1, ![2048]⟩
abbrev S136x1x12288 : Shape := ⟨3, ![136, 1, 12288]⟩
abbrev S1x2048 : Shape := ⟨2, ![1, 2048]⟩
abbrev S16384x2048 : Shape := ⟨2, ![16384, 2048]⟩
abbrev S512x1024 : Shape := ⟨2, ![512, 1024]⟩
abbrev S1x512x2048 : Shape := ⟨3, ![1, 512, 2048]⟩
abbrev S1x1x2048 : Shape := ⟨3, ![1, 1, 2048]⟩
abbrev S512x2048 : Shape := ⟨2, ![512, 2048]⟩
abbrev S1x256x2048 : Shape := ⟨3, ![1, 256, 2048]⟩
abbrev S256x2048 : Shape := ⟨2, ![256, 2048]⟩
abbrev S1x256 : Shape := ⟨2, ![1, 256]⟩
abbrev S1x256x1 : Shape := ⟨3, ![1, 256, 1]⟩

abbrev nBuf : Space → Nat
  | .hbm => 12
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x2048, .f32⟩
  | .hbm, ⟨3, _⟩ => ⟨S136x12288, .f32⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S136x1x12288, .f32⟩
  | .hbm, ⟨8, _⟩ => ⟨S1x2048, .f32⟩
  | .hbm, ⟨9, _⟩ => ⟨S1x2048, .f32⟩
  | .hbm, ⟨10, _⟩ => ⟨S2x8192x2048, .f32⟩
  | .hbm, ⟨11, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S1x512x2048, .f32⟩
  | .local _ .vmem, ⟨16, _⟩ => ⟨S1x512x2048, .f32⟩
  | .local _ .vmem, ⟨17, _⟩ => ⟨S512x2048, .bf16⟩
  | .local _ .vmem, ⟨18, _⟩ => ⟨S512x2048, .bf16⟩
  | .local _ .vmem, ⟨19, _⟩ => ⟨S512x2048, .f32⟩
  | .local _ .vmem, ⟨20, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c128_i32 : BitVec 32 := 128#32
  let v19 : BitVec 32 := Scalar.addi c128_i32 v18
  let c0_i32_6 : BitVec 32 := 0#32
  let c2_i32 : BitVec 32 := 2#32
  let c0_i32_7 : BitVec 32 := 0#32
  ![v19.toNat, c0_i32_6.toNat, c2_i32.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c128_i32 : BitVec 32 := 128#32
  let v19 : BitVec 32 := Scalar.addi c128_i32 v18
  let c0_i32_6 : BitVec 32 := 0#32
  let c3_i32 : BitVec 32 := 3#32
  let c0_i32_7 : BitVec 32 := 0#32
  ![v19.toNat, c0_i32_6.toNat, c3_i32.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c128_i32 : BitVec 32 := 128#32
  let v19 : BitVec 32 := Scalar.addi c128_i32 v18
  let c0_i32_6 : BitVec 32 := 0#32
  let c4_i32 : BitVec 32 := 4#32
  let c0_i32_7 : BitVec 32 := 0#32
  ![v19.toNat, c0_i32_6.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S2x8192x2048 : Shape := ⟨3, ![2, 8192, 2048]⟩
abbrev S136x12288 : Shape := ⟨2, ![136, 12288]⟩
abbrev S2048x2048 : Shape := ⟨2, ![2048, 2048]⟩
abbrev S2048 : Shape := ⟨1, ![2048]⟩
abbrev S2x6144 : Shape := ⟨2, ![2, 6144]⟩
abbrev S2x1x6144 : Shape := ⟨3, ![2, 1, 6144]⟩
abbrev S2x1x2048 : Shape := ⟨3, ![2, 1, 2048]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x2048, .f32⟩
  | .hbm, ⟨3, _⟩ => ⟨S136x12288, .f32⟩
  | .hbm, ⟨4, _⟩ => ⟨S2048x2048, .bf16⟩
  | .hbm, ⟨5, _⟩ => ⟨S2048, .f32⟩
  | .hbm, ⟨6, _⟩ => ⟨S2048, .f32⟩
  | .hbm, ⟨7, _⟩ => ⟨S2x6144, .f32⟩
  | .hbm, ⟨8, _⟩ => ⟨S2x1x6144, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S16384x1024, .f32⟩
  | .hbm, ⟨13, _⟩ => ⟨S2x8192x1024, .f32⟩
  | .hbm, ⟨14, _⟩ => ⟨S16384x1024, .f32⟩
  | .hbm, ⟨15, _⟩ => ⟨S2x8192x1024, .f32⟩
  | .hbm, ⟨16, _⟩ => ⟨S2x8192x2048, .f32⟩
  | .hbm, ⟨17, _⟩ => ⟨S2048x2048, .f32⟩
  | .hbm, ⟨18, _⟩ => ⟨S2x8192x2048, .f32⟩
  | .hbm, ⟨19, _⟩ => ⟨S_, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S1x1x2048, .f32⟩
  | .hbm, ⟨52, _⟩ => ⟨S2x8192x2048, .f32⟩
  | .hbm, ⟨53, _⟩ => ⟨S2x8192x2048, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S2x8192x2048, .f32⟩
  | .hbm, ⟨61, _⟩ => ⟨S2x8192x2048, .f32⟩
  | .hbm, ⟨62, _⟩ => ⟨S2x8192x2048, .f32⟩
  | .hbm, ⟨63, _⟩ => ⟨S_, .f32⟩
  | .hbm, ⟨64, _⟩ => ⟨S2x8192, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x2048, .f32⟩
  | .hbm, ⟨70, _⟩ => ⟨S2x8192x2048, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S2x8192x1, .f32⟩
  | .hbm, ⟨75, _⟩ => ⟨S2x8192x2048, .f32⟩
  | .hbm, ⟨76, _⟩ => ⟨S2x8192x2048, .f32⟩
  | .hbm, ⟨77, _⟩ => ⟨S_, .f32⟩
  | .hbm, ⟨78, _⟩ => ⟨S2x1x2048, .f32⟩
  | .hbm, ⟨79, _⟩ => ⟨S2x1x2048, .f32⟩
  | .hbm, ⟨80, _⟩ => ⟨S2x8192x2048, .f32⟩
  | .hbm, ⟨81, _⟩ => ⟨S2x8192x2048, .f32⟩
  | .hbm, ⟨82, _⟩ => ⟨S2x8192x2048, .f32⟩
  | .hbm, ⟨83, _⟩ => ⟨S2x8192x2048, .f32⟩
  | .hbm, ⟨84, _⟩ => ⟨S2x8192x2048, .bf16⟩
  | .hbm, ⟨85, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Proof.AttFrame.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

set_option maxRecDepth 16384

/-! The attention call: the claims about it that need no precondition, but the value claim. -/

noncomputable section
open Idealize.ShloMosaic Idealize.ShloMosaic.TcCoe Idealize.SL.Sem

namespace Cert.Proof.Att

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's constant is named: minus infinity at the extended reals. -/
theorem preserves : Cert.preserves_Kernel_KernelIdeal :=
  IdealRules.named_const.statement Cert.KernelIdeal.κ "mask" .f32 0xF149F2CA#32 ⊥ rfl

end Cert.Proof.Att
-- ==== Proof.AttMath.lean ====
module

public import Idealize.ShloMosaic.Lib.Pointwise

@[expose] public section

/-! One query's attention over the extended reals, in plain terms. -/

noncomputable section
open Idealize.ShloMosaic Idealize.ShloMosaic.TcCoe Idealize.SL.Sem
namespace Cert.Att

/-- The larger of the sink and the largest of a query's 256 logits. -/
def peak (s : Fin 256 → EReal) (k : EReal) : EReal := max (Finset.univ.fold max ⊥ s) k

/-- The softmax's denominator: the logits' exponentials and the sink's. -/
def den (s : Fin 256 → EReal) (k : EReal) : EReal :=
  ∑ a, Ideal.exp (s a - peak s k) + Ideal.exp (k - peak s k)

/-- The weight of key `a`. -/
def weight (s : Fin 256 → EReal) (k : EReal) (a : Fin 256) : EReal :=
  Ideal.exp (s a - peak s k) * Ideal.div 1 (den s k)

/-- The weighted sum of the values `v`. -/
def attend (s : Fin 256 → EReal) (k : EReal) (v : Fin 256 → EReal) : EReal := ∑ a, v a * weight s k a

/-- Zero values have the weighted sum zero, whatever the weights. -/
theorem attend_zero (s : Fin 256 → EReal) (k : EReal) : attend s k (fun _ => 0) = 0 := by
  simp only [attend, zero_mul, Finset.sum_const_zero]

/-- The distances from which the buckets after the sixteenth begin. -/
def steps : List ℕ := [19, 21, 24, 27, 31, 35, 40, 46, 52, 59, 67, 77, 87, 99, 113]

/-- The bucket of a distance: the distance itself below 16, then one for each step reached. -/
def bucket (n : ℕ) : ℕ := if n < 16 then n else 16 + (steps.filter (· ≤ n)).length

/-- There are 32 buckets. -/
theorem bucket_lt (n : ℕ) : bucket n < 32 := by
  have : (steps.filter (· ≤ n)).length ≤ 15 := List.length_filter_le _ _
  unfold bucket
  split <;> omega

end Cert.Att

end
-- ==== Proof.AttBlock.lean ====
module

public import proofs.«01_k».proof.Proof.Gen.KernelIdeal.Skeleton
public import proofs.«01_k».proof.Proof.AttMath
public import Idealize.ShloMosaic.Lib.WordCmp

@[expose] public section

set_option maxRecDepth 16384

/-! The attention call: the vector operations of one block of queries, for any offsets, read at an element over the extended reals. -/

noncomputable section
open Idealize.ShloMosaic Idealize.ShloMosaic.TcCoe Idealize.SL.Sem
namespace Cert.KernelIdeal.Att
open Cert.KernelIdeal Cert.KernelIdeal.Gen Cert.Att

/-- The lanes below 64 of `x`, zero in the others. -/
def lows (x : FVec Ideal S1152x128 .f32) : FVec Ideal S1152x128 .f32 :=
  select (cmpi .slt (iota .tc S1152x128 32 [1] iota_S1152x128_d1_w32) (broadcast S1152x128 64#32)) x
    (broadcast S1152x128 (Scalar.ofBits (F := Ideal) .f32 0x00000000#32))

/-- The lanes from 64 of `x`, zero in the others. -/
def highs (x : FVec Ideal S1152x128 .f32) : FVec Ideal S1152x128 .f32 :=
  select (cmpi .sge (iota .tc S1152x128 32 [1] iota_S1152x128_d1_w32) (broadcast S1152x128 64#32)) x
    (broadcast S1152x128 (Scalar.ofBits (F := Ideal) .f32 0x00000000#32))

/-- The two halves of the lanes exchanged. -/
def swap (x : FVec Ideal S1152x128 .f32) : FVec Ideal S1152x128 .f32 := dynamicRotate 1 64#32 none x rotates_S1152x128_d1

/-- The keys' operand. -/
def keyOp (x : FVec Ideal S1152x128 .f32) : FVec Ideal S1152x128 .bf16 := truncf .bf16 x bitsLt_bf16_f32

/-- The values' operand. -/
def valOp (x : FVec Ideal S1152x128 .f32) : FVec Ideal S128x1152 .bf16 :=
  truncf .bf16 (transpose S128x1152 [1, 0] x transposes_S1152x128_p1_0_S128x1152) bitsLt_bf16_f32

/-- The two query columns of a group, one above the other. -/
def queryOp (u w : FVec Ideal S1x128x128 .bf16) : FVec Ideal S256x128 .bf16 :=
  concatenate S256x128 0 [⟨S128x128, shapeCast S128x128 u shapeCasts_S1x128x128_S128x128⟩,
    ⟨S128x128, shapeCast S128x128 w shapeCasts_S1x128x128_S128x128⟩] concatenates_S128x128_S128x128_S256x128_d0

/-- The logits before the first block's mask. -/
def logits (o : ℕ) (h : S1152x128.Slices ![o, 0] S256x128) (K : FVec Ideal S1152x128 .bf16) (q : FVec Ideal S256x128 .bf16)
    (b : FVec Ideal S1x256x256 .f32) : FVec Ideal S256x256 .f32 :=
  addf (matmul dot_S256x128_S256x128_S256x256_1_1_0_0_n_n none (extractStridedSlice S256x128 ![o, 0] K h) q
    (constant S256x256 .f32 0x00000000#32)) (shapeCast S256x256 b shapeCasts_S1x256x256_S256x256)

/-- The largest logit of each query, or the sink. -/
def peaks (s : FVec Ideal S256x256 .f32) (k : FVec Ideal S1x1x256 .f32) : FVec Ideal S1x256 .f32 :=
  maximumf (shapeCast S1x256 (multiReduction .maximumf [0] S256 s 0xFF800000#32 reduces_S256x256_S256 (.inl rfl) rfl)
    shapeCasts_S256_S1x256) (shapeCast S1x256 k shapeCasts_S1x1x256_S1x256)

/-- The exponentials of the logits below the peak. -/
def exps (s : FVec Ideal S256x256 .f32) (k : FVec Ideal S1x1x256 .f32) : FVec Ideal S256x256 .f32 :=
  exp (subf s (broadcastTo S256x256 (peaks s k) broadcasts_S1x256_S256x256))

/-- The softmax weights. -/
def weights (s : FVec Ideal S256x256 .f32) (k : FVec Ideal S1x1x256 .f32) : FVec Ideal S256x256 .bf16 :=
  truncf .bf16 (mulf (exps s k) (broadcastTo S256x256
    (divf (broadcast S1x256 (Scalar.ofBits (F := Ideal) .f32 0x3F800000#32))
      (addf (shapeCast S1x256 (multiReduction .add [0] S256 (exps s k) 0x00000000#32 reduces_S256x256_S256 (.inl rfl) rfl)
        shapeCasts_S256_S1x256) (exp (subf (shapeCast S1x256 k shapeCasts_S1x1x256_S1x256) (peaks s k)))))
    broadcasts_S1x256_S256x256)) bitsLt_bf16_f32

/-- One half's share of the output, transposed. -/
def share (o : ℕ) (h : S128x1152.Slices ![0, o] S128x256) (V : FVec Ideal S128x1152 .bf16) (s : FVec Ideal S256x256 .f32)
    (k : FVec Ideal S1x1x256 .f32) : FVec Ideal S128x256 .f32 :=
  matmul dot_S128x256_S256x256_S128x256_1_0_0_1_n_n none (extractStridedSlice S128x256 ![0, o] V h) (weights s k)
    (constant S128x256 .f32 0x00000000#32)

/-- The two halves' shares together, one row for each query. -/
def both (x y : FVec Ideal S128x256 .f32) : FVec Ideal S256x128 .f32 :=
  transpose S256x128 [1, 0] (addf x y) transposes_S128x256_p1_0_S256x128

/-- The 128 rows from `o`, as the block stored. -/
def store (o : ℕ) (h : S256x128.Slices ![o, 0] S128x128) (x : FVec Ideal S256x128 .f32) : FVec Ideal S1x128x128 .bf16 :=
  shapeCast S1x128x128 (truncf .bf16 (extractStridedSlice S128x128 ![o, 0] x h) bitsLt_bf16_f32) shapeCasts_S128x128_S1x128x128

/-- The pattern of the reduction's start is the least element. -/
theorem bot_word : Ideal.ofBits FTy.f32 0xFF800000#32 = ⊥ := by simp [Ideal.ofBits, Ideal.ieee]

/-- The softmax weight of key `a` for query `c`. -/
theorem weights_at (s : FVec Ideal S256x256 .f32) (k : FVec Ideal S1x1x256 .f32) (a c : Fin 256) :
    weights s k (ix2 a c) = weight (fun i => s (ix2 i c)) (k (ix3 0 0 c)) a := by
  pointwise [weights, exps, peaks, weight, den, peak, bot_word]

/-- A logit is the product of the key's and the query's rows, and the bias. -/
theorem logits_at (o : ℕ) (h : S1152x128.Slices ![o, 0] S256x128) (K : FVec Ideal S1152x128 .bf16) (q : FVec Ideal S256x128 .bf16)
    (b : FVec Ideal S1x256x256 .f32) (a c : Fin 256) (ho : o ≤ 896) :
    logits o h K q b (ix2 a c) = ∑ d : Fin 128, K (ix2 ⟨o + a, by omega⟩ d) * q (ix2 c d) + b (ix3 0 a c) := by
  pointwise [logits]

/-- A half's share of the output is the weighted sum of its values. -/
theorem share_at (o : ℕ) (h : S128x1152.Slices ![0, o] S128x256) (V : FVec Ideal S1152x128 .f32) (s : FVec Ideal S256x256 .f32)
    (k : FVec Ideal S1x1x256 .f32) (l : Fin 128) (c : Fin 256) (ho : o ≤ 896) :
    share o h (valOp V) s k (ix2 l c) = attend (fun i => s (ix2 i c)) (k (ix3 0 0 c)) (fun a => V (ix2 ⟨o + a, by omega⟩ l)) := by
  pointwise [share, attend, weights_at, valOp]

/-- The stored rows: the sum of the two shares. -/
theorem store_at (o : ℕ) (h : S256x128.Slices ![o, 0] S128x128) (x y : FVec Ideal S128x256 .f32) (a : Fin 1) (r l : Fin 128)
    (ho : o ≤ 128) :
    store o h (both x y) (ix3 a r l) = x (ix2 l ⟨o + r, by omega⟩) + y (ix2 l ⟨o + r, by omega⟩) := by
  pointwise [store, both]

/-- Column `c` of 128 lanes of the keys and values. -/
def lanes (o : ℕ) (h : S1152x512.Slices ![0, o] S1152x128) (x : FVec Ideal S1152x512 .f32) : FVec Ideal S1152x128 .f32 :=
  extractStridedSlice S1152x128 ![0, o] x h

/-- `X` holds 64 lanes of `x` from lane `p` on in its half `hf`, and zero in the other half. -/
def Holds (hf p : ℕ) (hp : p ≤ 448) (x : FVec Ideal S1152x512 .f32) (X : FVec Ideal S1152x128 .f32) : Prop :=
  ∀ (r : Fin 1152) (d : Fin 128), X (ix2 r d) = if d.val / 64 = hf then x (ix2 r ⟨p + d.val % 64, by omega⟩) else 0

/-- A group's keys lie within the array's lanes. -/
theorem key_le (g : Fin 4) : 64 * g.val ≤ 448 := by omega

/-- So do its values. -/
theorem val_le (g : Fin 4) : 256 + 64 * g.val ≤ 448 := by omega

section holds
variable (o : ℕ) (h : S1152x512.Slices ![0, o] S1152x128) (x : FVec Ideal S1152x512 .f32) (ho : o ≤ 384)

/-- The low lanes. -/
theorem holds_lows : Holds 0 o (by omega) x (lows (lanes o h x)) := fun r d => by
  pointwise [lows, lanes]
  word_cmp
  by_cases hd : d.val < 64
  · simp only [hd, if_pos, show d.val / 64 = 0 by omega, show d.val % 64 = d.val by omega]
  · simp only [hd, if_false, show ¬ d.val / 64 = 0 by omega]

/-- The high lanes, brought down. -/
theorem holds_swap_lows : Holds 0 (o + 64) (by omega) x (lows (swap (lanes o h x))) := fun r d => by
  pointwise [lows, lanes, swap]
  word_cmp
  by_cases hd : d.val < 64
  · simp only [hd, if_pos, show d.val / 64 = 0 by omega, show o + (d.val + 128 - 64) % 128 = o + 64 + d.val % 64 by omega]
  · simp only [hd, if_false, show ¬ d.val / 64 = 0 by omega]

/-- The high lanes. -/
theorem holds_highs : Holds 1 (o + 64) (by omega) x (highs (lanes o h x)) := fun r d => by
  pointwise [highs, lanes]
  word_cmp
  by_cases hd : 64 ≤ d.val
  · simp only [hd, if_pos, show d.val / 64 = 1 by omega, show o + d.val = o + 64 + d.val % 64 by omega]
  · simp only [hd, if_false, show ¬ d.val / 64 = 1 by omega]

/-- The low lanes, brought up. -/
theorem holds_swap_highs : Holds 1 o (by omega) x (highs (swap (lanes o h x))) := fun r d => by
  pointwise [highs, lanes, swap]
  word_cmp
  by_cases hd : 64 ≤ d.val
  · simp only [hd, if_pos, show d.val / 64 = 1 by omega, show o + (d.val + 128 - 64) % 128 = o + d.val % 64 by omega]
  · simp only [hd, if_false, show ¬ d.val / 64 = 1 by omega]
end holds

/-- The mask of the first block of a sequence: the keys before the sequence are left out. -/
theorem first_at (i : grid0.Coords) (a c : Fin 256) :
    k0_pay155 (F := Ideal) i (ix2 a c) = if a.val < 128 ∧ (i 1).val = 0 then ⊥ else 0 := by
  have hi : (i 1).val < 8 := (i 1).isLt
  pointwise [k0_pay155]
  generalize (i 1).val = n at hi ⊢
  rw [IdealRules.named_const.ideal_named_scalar κ "mask" (φ := .f32) _ ⊥ rfl]
  by_cases h1 : a.val < 128 <;> by_cases h2 : n = 0
  all_goals simp only [h1, h2, true_and, and_true, and_false, false_and, if_true, if_false]
  all_goals word_cmp
  all_goals simp only [h1, h2, and_false, and_self, if_true, if_false]

/-- The queries' operand, read in either of its two columns. -/
theorem queryOp_at (u w : FVec Ideal S1x128x128 .bf16) (o : ℕ) (ho : o = 0 ∨ o = 128) (r d : Fin 128) :
    queryOp u w (ix2 ⟨o + r, by omega⟩ d) = if o = 0 then u (ix3 0 r d) else w (ix3 0 r d) := by
  rcases ho with rfl | rfl
  · pointwise [queryOp]
  · pointwise [queryOp]

/-- Row `r` of the keys and values in reach of the block: the 128 rows before it, then its own. -/
def keyRow (kp : FVec Ideal S1x128x512 .f32) (kc : FVec Ideal S1x1024x512 .f32) (r : Fin 1152) (d : Fin 512) : EReal :=
  if h : r.val < 128 then kp (ix3 0 ⟨r, h⟩ d) else kc (ix3 0 ⟨r - 128, by omega⟩ d)

/-- The keys and values in reach, read at a row. -/
theorem pay156_at (kp : FVec Ideal S1x128x512 .f32) (kc : FVec Ideal S1x1024x512 .f32) (r : Fin 1152) (d : Fin 512) :
    (k0_pay156 (F := Ideal) kp kc (ix2 r d) : EReal) = keyRow kp kc r d := by
  pointwise [k0_pay156, keyRow]

/-- A sum over 128 lanes of which one half is zero. -/
theorem half_sum (hf : Fin 2) (f : Fin 128 → EReal) (x : ℕ → EReal) (q : Fin 128 → EReal)
    (hx : ∀ d : Fin 128, f d = if d.val / 64 = hf.val then x (d.val % 64) else 0) :
    ∑ d, f d * q d = ∑ d : Fin 64, x d * q ⟨64 * hf + d, by omega⟩ := by
  rw [Fin.sum_univ_two_halves 64 64 rfl]
  fin_vals hf with hh
  all_goals
    simp only [hx, hh, show ∀ k : Fin 64, (64 + k.val) / 64 = 1 from fun k => by omega,
      show ∀ k : Fin 64, k.val / 64 = 0 from fun k => by omega, show ∀ k : Fin 64, (64 + k.val) % 64 = k.val from fun k => by omega,
      show ∀ k : Fin 64, k.val % 64 = k.val from fun k => by omega, if_true, one_ne_zero, zero_ne_one, if_false, zero_mul,
      Finset.sum_const_zero, add_zero, zero_add, Nat.mul_zero, Nat.mul_one]

section score
variable (q : FVec Ideal S1x1024x1024 .bf16) (kp : FVec Ideal S1x128x512 .f32) (kc : FVec Ideal S1x1024x512 .f32)
  (bias : FVec Ideal S8x256x256 .f32) (sk : FVec Ideal S8x8x256 .f32) (f : Prop) [Decidable f]

/-- The logit of the block's query `R` in head `h` against the key `a` rows after the 128 rows before its group of 128. -/
def score (R : Fin 1024) (h : Fin 16) (a : Fin 256) : EReal :=
  ∑ d : Fin 64, keyRow kp kc ⟨R / 128 * 128 + a, by omega⟩ ⟨64 * (h / 4) + d, by omega⟩ * q (ix3 0 R ⟨64 * h + d, by omega⟩)
    + bias (ix3 ⟨2 * (h / 4) + h % 2, by omega⟩ a ⟨128 * (h % 4 / 2) + R % 128, by omega⟩)
    + if R.val < 128 ∧ a.val < 128 ∧ f then ⊥ else 0

/-- What the block holds at query `R` and lane `D`. -/
def blockAt (R D : Fin 1024) : EReal :=
  attend (score q kp kc bias f R ⟨D / 64, by omega⟩)
    (sk (ix3 ⟨2 * (D / 256) + D / 64 % 2, by omega⟩ 0 ⟨128 * (D / 64 % 4 / 2) + R % 128, by omega⟩))
    (fun a => keyRow kp kc ⟨R / 128 * 128 + a, by omega⟩ ⟨256 + 64 * (D / 256) + D % 64, by omega⟩)

variable (o oR : ℕ) (ho : o ≤ 896) (ho' : o % 128 = 0) (hR : oR = 0 ∨ oR = 128) (g : Fin 4) (u w : FVec Ideal S1x128x128 .bf16)
  (r l : Fin 128)

/-- A half's logits, before the first block's mask. -/
theorem logits_score (hf : Fin 2) (h : S1152x128.Slices ![o, 0] S256x128) (K : FVec Ideal S1152x128 .f32)
    (hK : Holds hf (64 * g) (key_le g) (k0_pay156 (F := Ideal) kp kc) K) (b : FVec Ideal S1x256x256 .f32)
    (hq : ∀ d : Fin 128, (if oR = 0 then u (ix3 0 r d) else w (ix3 0 r d)) = q (ix3 0 ⟨o + r, by omega⟩ ⟨256 * g + oR + d, by omega⟩))
    (hb : ∀ i c, b (ix3 0 i c) = bias (ix3 ⟨2 * g + hf, by omega⟩ i c)) (i : Fin 256) :
    logits o h (keyOp K) (queryOp u w) b (ix2 i ⟨oR + r, by omega⟩)
      = ∑ d : Fin 64, keyRow kp kc ⟨o + i, by omega⟩ ⟨64 * g + d, by omega⟩
          * q (ix3 0 ⟨o + r, by omega⟩ ⟨256 * g + oR + (64 * hf + d), by omega⟩)
        + bias (ix3 ⟨2 * g + hf, by omega⟩ i ⟨oR + r, by omega⟩) := by
  rw [logits_at o h _ _ b i _ ho, hb]
  refine congrArg (· + _) ?_
  have e : ∀ d : Fin 128, queryOp u w (ix2 ⟨oR + r, by omega⟩ d) = q (ix3 0 ⟨o + r, by omega⟩ ⟨256 * g + oR + d, by omega⟩) :=
    fun d => (queryOp_at u w oR hR r d).trans (hq d)
  simp only [e]
  refine half_sum hf (fun d => keyOp K (ix2 ⟨o + i, by omega⟩ d))
    (fun n => if hn : n < 64 then keyRow kp kc ⟨o + i, by omega⟩ ⟨64 * g + n, by omega⟩ else 0)
    (fun d => q (ix3 0 ⟨o + r, by omega⟩ ⟨256 * g + oR + d, by omega⟩)) (fun d => ?_) |>.trans ?_
  · have := hK ⟨o + i, by omega⟩ d
    refine (show keyOp K (ix2 ⟨o + i, by omega⟩ d) = K (ix2 ⟨o + i, by omega⟩ d) by pointwise [keyOp]).trans (this.trans ?_)
    simp only [pay156_at, show d.val % 64 < 64 by omega, dif_pos]
  · simp only [Fin.isLt, dif_pos]

/-- The score at one of the block's queries, by its group and column. -/
theorem score_eq (hf : Fin 2) (i : Fin 256) :
    score q kp kc bias f ⟨o + r, by omega⟩ ⟨4 * g + 2 * (oR / 128) + hf, by omega⟩ i
      = ∑ d : Fin 64, keyRow kp kc ⟨o + i, by omega⟩ ⟨64 * g + d, by omega⟩
          * q (ix3 0 ⟨o + r, by omega⟩ ⟨256 * g + oR + (64 * hf + d), by omega⟩)
        + bias (ix3 ⟨2 * g + hf, by omega⟩ i ⟨oR + r, by omega⟩)
        + if o + r < 128 ∧ i.val < 128 ∧ f then ⊥ else 0 := by
  unfold score
  have e1 : (o + r.val) / 128 * 128 = o := by omega
  have e2 : (4 * g.val + 2 * (oR / 128) + hf.val) / 4 = g := by omega
  have e3 : ∀ d : Fin 64, 64 * (4 * g.val + 2 * (oR / 128) + hf.val) + d.val = 256 * g + oR + (64 * hf + d) := fun d => by omega
  have e4 : (4 * g.val + 2 * (oR / 128) + hf.val) % 2 = hf := by omega
  have e5 : 128 * ((4 * g.val + 2 * (oR / 128) + hf.val) % 4 / 2) + (o + r.val) % 128 = oR + r := by omega
  simp only [e1, e2, e3, e4, e5]

/-- What the block stores at a query and a lane, from its two halves' logits. -/
theorem piece_at (hS : S256x128.Slices ![oR, 0] S128x128) (h0 h1 : S128x1152.Slices ![0, o] S128x256)
    (V0 V1 : FVec Ideal S1152x128 .f32)
    (hV0 : Holds 0 (256 + 64 * g) (val_le g) (k0_pay156 (F := Ideal) kp kc) V0)
    (hV1 : Holds 1 (256 + 64 * g) (val_le g) (k0_pay156 (F := Ideal) kp kc) V1)
    (s0 s1 : FVec Ideal S256x256 .f32) (k0 k1 : FVec Ideal S1x1x256 .f32)
    (hs0 : ∀ i : Fin 256, s0 (ix2 i ⟨oR + r, by omega⟩)
      = score q kp kc bias f ⟨o + r, by omega⟩ ⟨4 * g + 2 * (oR / 128) + (0 : Fin 2), by omega⟩ i)
    (hs1 : ∀ i : Fin 256, s1 (ix2 i ⟨oR + r, by omega⟩)
      = score q kp kc bias f ⟨o + r, by omega⟩ ⟨4 * g + 2 * (oR / 128) + (1 : Fin 2), by omega⟩ i)
    (hk0 : ∀ c, k0 (ix3 0 0 c) = sk (ix3 ⟨2 * g, by omega⟩ 0 c)) (hk1 : ∀ c, k1 (ix3 0 0 c) = sk (ix3 ⟨2 * g + 1, by omega⟩ 0 c))
    (a : Fin 1) :
    store oR hS (both (share o h0 (valOp V0) s0 k0) (share o h1 (valOp V1) s1 k1)) (ix3 a r l)
      = blockAt q kp kc bias sk f ⟨o + r, by omega⟩ ⟨256 * g + oR + l, by omega⟩ := by
  rw [store_at oR hS _ _ a r l (by omega), share_at o h0 V0 s0 k0 _ _ ho, share_at o h1 V1 s1 k1 _ _ ho]
  simp only [hs0, hs1, hk0, hk1, hV0 _ l, hV1 _ l]
  unfold blockAt
  have e1 : (o + r.val) / 128 * 128 = o := by omega
  have e2 : (256 * g.val + oR + l.val) / 256 = g := by omega
  have e3 : (256 * g.val + oR + l.val) % 64 = l.val % 64 := by omega
  have e5 : (o + r.val) % 128 = r := by omega
  by_cases hl : l.val / 64 = 0
  · have e4 : (256 * g.val + oR + l.val) / 64 = 4 * g + 2 * (oR / 128) + 0 := by omega
    have e6 : (4 * g.val + 2 * (oR / 128) + 0) % 2 = 0 := by omega
    have e7 : 128 * ((4 * g.val + 2 * (oR / 128) + 0) % 4 / 2) = oR := by omega
    simp only [hl, e1, e2, e3, e4, e5, e6, e7, pay156_at, if_true, zero_ne_one, if_false, attend_zero]
    exact add_zero _
  · have hl' : l.val / 64 = 1 := by omega
    have e4 : (256 * g.val + oR + l.val) / 64 = 4 * g + 2 * (oR / 128) + 1 := by omega
    have e6 : (4 * g.val + 2 * (oR / 128) + 1) % 2 = 1 := by omega
    have e7 : 128 * ((4 * g.val + 2 * (oR / 128) + 1) % 4 / 2) = oR := by omega
    simp only [hl', e1, e2, e3, e4, e5, e6, e7, pay156_at, if_true, one_ne_zero, if_false, attend_zero, zero_add]
    rfl

/-- One block of queries after the first, for keys and values laid out in halves. -/
theorem piece_later (hS : S256x128.Slices ![oR, 0] S128x128) (h0 h1 : S128x1152.Slices ![0, o] S128x256)
    (h2 h3 : S1152x128.Slices ![o, 0] S256x128) (V0 V1 K0 K1 : FVec Ideal S1152x128 .f32)
    (hV0 : Holds 0 (256 + 64 * g) (val_le g) (k0_pay156 (F := Ideal) kp kc) V0)
    (hV1 : Holds 1 (256 + 64 * g) (val_le g) (k0_pay156 (F := Ideal) kp kc) V1)
    (hK0 : Holds 0 (64 * g) (key_le g) (k0_pay156 (F := Ideal) kp kc) K0)
    (hK1 : Holds 1 (64 * g) (key_le g) (k0_pay156 (F := Ideal) kp kc) K1)
    (b0 b1 : FVec Ideal S1x256x256 .f32) (k0 k1 : FVec Ideal S1x1x256 .f32)
    (hq : ∀ d : Fin 128, (if oR = 0 then u (ix3 0 r d) else w (ix3 0 r d)) = q (ix3 0 ⟨o + r, by omega⟩ ⟨256 * g + oR + d, by omega⟩))
    (hb0 : ∀ i c, b0 (ix3 0 i c) = bias (ix3 ⟨2 * g, by omega⟩ i c)) (hb1 : ∀ i c, b1 (ix3 0 i c) = bias (ix3 ⟨2 * g + 1, by omega⟩ i c))
    (hk0 : ∀ c, k0 (ix3 0 0 c) = sk (ix3 ⟨2 * g, by omega⟩ 0 c)) (hk1 : ∀ c, k1 (ix3 0 0 c) = sk (ix3 ⟨2 * g + 1, by omega⟩ 0 c))
    (h128 : 128 ≤ o) (a : Fin 1) :
    store oR hS (both (share o h0 (valOp V0) (logits o h2 (keyOp K0) (queryOp u w) b0) k0)
        (share o h1 (valOp V1) (logits o h3 (keyOp K1) (queryOp u w) b1) k1)) (ix3 a r l)
      = blockAt q kp kc bias sk f ⟨o + r, by omega⟩ ⟨256 * g + oR + l, by omega⟩ := by
  refine piece_at q kp kc bias sk f o oR ho ho' hR g r l hS h0 h1 V0 V1 hV0 hV1 _ _ k0 k1 (fun i => ?_) (fun i => ?_) hk0 hk1 a
  · rw [score_eq q kp kc bias f o oR ho ho' hR g r 0 i, if_neg (by omega), add_zero]
    exact logits_score q kp kc bias o oR ho ho' hR g u w r 0 h2 K0 hK0 b0 hq hb0 i
  · rw [score_eq q kp kc bias f o oR ho ho' hR g r 1 i, if_neg (by omega), add_zero]
    exact logits_score q kp kc bias o oR ho ho' hR g u w r 1 h3 K1 hK1 b1 hq hb1 i

/-- The first block of queries, masked where the keys lie before the sequence. -/
theorem piece_first (hS : S256x128.Slices ![oR, 0] S128x128) (h0 h1 : S128x1152.Slices ![0, 0] S128x256)
    (h2 h3 : S1152x128.Slices ![0, 0] S256x128) (V0 V1 K0 K1 : FVec Ideal S1152x128 .f32)
    (hV0 : Holds 0 (256 + 64 * g) (val_le g) (k0_pay156 (F := Ideal) kp kc) V0)
    (hV1 : Holds 1 (256 + 64 * g) (val_le g) (k0_pay156 (F := Ideal) kp kc) V1)
    (hK0 : Holds 0 (64 * g) (key_le g) (k0_pay156 (F := Ideal) kp kc) K0)
    (hK1 : Holds 1 (64 * g) (key_le g) (k0_pay156 (F := Ideal) kp kc) K1)
    (b0 b1 : FVec Ideal S1x256x256 .f32) (k0 k1 : FVec Ideal S1x1x256 .f32) (t : grid0.Coords) (hf : f ↔ (t 1).val = 0)
    (hq : ∀ d : Fin 128, (if oR = 0 then u (ix3 0 r d) else w (ix3 0 r d)) = q (ix3 0 ⟨0 + r, by omega⟩ ⟨256 * g + oR + d, by omega⟩))
    (hb0 : ∀ i c, b0 (ix3 0 i c) = bias (ix3 ⟨2 * g, by omega⟩ i c)) (hb1 : ∀ i c, b1 (ix3 0 i c) = bias (ix3 ⟨2 * g + 1, by omega⟩ i c))
    (hk0 : ∀ c, k0 (ix3 0 0 c) = sk (ix3 ⟨2 * g, by omega⟩ 0 c)) (hk1 : ∀ c, k1 (ix3 0 0 c) = sk (ix3 ⟨2 * g + 1, by omega⟩ 0 c))
    (a : Fin 1) :
    store oR hS (both (share 0 h0 (valOp V0) (addf (logits 0 h2 (keyOp K0) (queryOp u w) b0) (k0_pay155 t)) k0)
        (share 0 h1 (valOp V1) (addf (logits 0 h3 (keyOp K1) (queryOp u w) b1) (k0_pay155 t)) k1)) (ix3 a r l)
      = blockAt q kp kc bias sk f ⟨0 + r, by omega⟩ ⟨256 * g + oR + l, by omega⟩ := by
  have e : ∀ (s : FVec Ideal S256x256 .f32) (i c : Fin 256),
      addf s (k0_pay155 (F := Ideal) t) (ix2 i c) = s (ix2 i c) + if i.val < 128 ∧ (t 1).val = 0 then ⊥ else 0 := fun s i c => by
    have := first_at t i c
    pointwise at this ⊢
    rw [this]
  refine piece_at q kp kc bias sk f 0 oR (by omega) (by omega) hR g r l hS h0 h1 V0 V1 hV0 hV1 _ _ k0 k1 (fun i => ?_) (fun i => ?_) hk0 hk1 a
  · rw [score_eq q kp kc bias f 0 oR (by omega) (by omega) hR g r 0 i, e]
    refine congrArg₂ (· + ·) (logits_score q kp kc bias 0 oR (by omega) (by omega) hR g u w r 0 h2 K0 hK0 b0 hq hb0 i) (if_congr ?_ rfl rfl)
    rw [hf]; omega
  · rw [score_eq q kp kc bias f 0 oR (by omega) (by omega) hR g r 1 i, e]
    refine congrArg₂ (· + ·) (logits_score q kp kc bias 0 oR (by omega) (by omega) hR g u w r 1 h3 K1 hK1 b1 hq hb1 i) (if_congr ?_ rfl rfl)
    rw [hf]; omega

/-- A pair of loads of the queries, read by either of the block's two columns. -/
theorem query_pair (hu : ∀ r d, u (ix3 0 r d) = q (ix3 0 ⟨o + r, by omega⟩ ⟨256 * g + d, by omega⟩))
    (hw : ∀ r d, w (ix3 0 r d) = q (ix3 0 ⟨o + r, by omega⟩ ⟨256 * g + 128 + d, by omega⟩)) (d : Fin 128) :
    (if oR = 0 then u (ix3 0 r d) else w (ix3 0 r d)) = q (ix3 0 ⟨o + r, by omega⟩ ⟨256 * g + oR + d, by omega⟩) := by
  rcases hR with rfl | rfl
  · rw [if_pos rfl]; exact hu r d
  · rw [if_neg (by decide)]; exact hw r d
end score

section use
variable (q : FVec Ideal S1x1024x1024 .bf16) (kp : FVec Ideal S1x128x512 .f32) (kc : FVec Ideal S1x1024x512 .f32)
  (bias : FVec Ideal S8x256x256 .f32) (sk : FVec Ideal S8x8x256 .f32) (f : Prop) [Decidable f] (g : Fin 4)
  {o oR : ℕ} {u w : FVec Ideal S1x128x128 .bf16} {V0 V1 K0 K1 : FVec Ideal S1152x128 .f32}
  (hV0 : Holds 0 (256 + 64 * g) (val_le g) (k0_pay156 (F := Ideal) kp kc) V0)
  (hV1 : Holds 1 (256 + 64 * g) (val_le g) (k0_pay156 (F := Ideal) kp kc) V1)
  (hK0 : Holds 0 (64 * g) (key_le g) (k0_pay156 (F := Ideal) kp kc) K0)
  (hK1 : Holds 1 (64 * g) (key_le g) (k0_pay156 (F := Ideal) kp kc) K1)
  {hS : S256x128.Slices ![oR, 0] S128x128} {b0 b1 : FVec Ideal S1x256x256 .f32} {k0 k1 : FVec Ideal S1x1x256 .f32}
  {x : S1x128x128.Idx} {R D : Fin 1024} (hR : oR = 0 ∨ oR = 128)

include hV0 hV1 hK0 hK1 hR in
/-- A later block of queries, at an element of the block and the element of the array's block it lands on. -/
theorem later {h0 h1 : S128x1152.Slices ![0, o] S128x256} {h2 h3 : S1152x128.Slices ![o, 0] S256x128}
    (ho : o ≤ 896) (ho' : o % 128 = 0) (h128 : 128 ≤ o)
    (eR : R.val = o + (x 1).val) (eD : D.val = 256 * g + oR + (x 2).val)
    (hu : ∀ r d, u (ix3 0 r d) = q (ix3 0 ⟨o + r, by omega⟩ ⟨256 * g + d, by omega⟩))
    (hw : ∀ r d, w (ix3 0 r d) = q (ix3 0 ⟨o + r, by omega⟩ ⟨256 * g + 128 + d, by omega⟩))
    (hb0 : ∀ i c, b0 (ix3 0 i c) = bias (ix3 ⟨2 * g, by omega⟩ i c)) (hb1 : ∀ i c, b1 (ix3 0 i c) = bias (ix3 ⟨2 * g + 1, by omega⟩ i c))
    (hk0 : ∀ c, k0 (ix3 0 0 c) = sk (ix3 ⟨2 * g, by omega⟩ 0 c)) (hk1 : ∀ c, k1 (ix3 0 0 c) = sk (ix3 ⟨2 * g + 1, by omega⟩ 0 c)) :
    store oR hS (both (share o h0 (valOp V0) (logits o h2 (keyOp K0) (queryOp u w) b0) k0)
        (share o h1 (valOp V1) (logits o h3 (keyOp K1) (queryOp u w) b1) k1)) x
      = blockAt q kp kc bias sk f R D := by
  have x1 : (x 1).val < 128 := (x 1).isLt
  have x2 : (x 2).val < 128 := (x 2).isLt
  rw [show R = ⟨o + (x 1).val, by omega⟩ from Fin.ext eR, show D = ⟨256 * g + oR + (x 2).val, by omega⟩ from Fin.ext eD]
  refine (congrArg (store oR hS _) (eq_ix3 x)).trans ?_
  exact piece_later q kp kc bias sk f o oR ho ho' hR g u w (x 1) (x 2) hS h0 h1 h2 h3 V0 V1 K0 K1 hV0 hV1 hK0 hK1 b0 b1 k0 k1
    (query_pair q o oR ho ho' hR g u w (x 1) hu hw) hb0 hb1 hk0 hk1 h128 (x 0)

include hV0 hV1 hK0 hK1 hR in
/-- The first block of queries, in the same terms. -/
theorem first {h0 h1 : S128x1152.Slices ![0, 0] S128x256} {h2 h3 : S1152x128.Slices ![0, 0] S256x128}
    {t : grid0.Coords} (hf : f ↔ (t 1).val = 0)
    (eR : R.val = 0 + (x 1).val) (eD : D.val = 256 * g + oR + (x 2).val)
    (hu : ∀ r d, u (ix3 0 r d) = q (ix3 0 ⟨0 + r, by omega⟩ ⟨256 * g + d, by omega⟩))
    (hw : ∀ r d, w (ix3 0 r d) = q (ix3 0 ⟨0 + r, by omega⟩ ⟨256 * g + 128 + d, by omega⟩))
    (hb0 : ∀ i c, b0 (ix3 0 i c) = bias (ix3 ⟨2 * g, by omega⟩ i c)) (hb1 : ∀ i c, b1 (ix3 0 i c) = bias (ix3 ⟨2 * g + 1, by omega⟩ i c))
    (hk0 : ∀ c, k0 (ix3 0 0 c) = sk (ix3 ⟨2 * g, by omega⟩ 0 c)) (hk1 : ∀ c, k1 (ix3 0 0 c) = sk (ix3 ⟨2 * g + 1, by omega⟩ 0 c)) :
    store oR hS (both (share 0 h0 (valOp V0) (addf (logits 0 h2 (keyOp K0) (queryOp u w) b0) (k0_pay155 t)) k0)
        (share 0 h1 (valOp V1) (addf (logits 0 h3 (keyOp K1) (queryOp u w) b1) (k0_pay155 t)) k1)) x
      = blockAt q kp kc bias sk f R D := by
  have x1 : (x 1).val < 128 := (x 1).isLt
  have x2 : (x 2).val < 128 := (x 2).isLt
  rw [show R = ⟨0 + (x 1).val, by omega⟩ from Fin.ext eR, show D = ⟨256 * g + oR + (x 2).val, by omega⟩ from Fin.ext eD]
  refine (congrArg (store oR hS _) (eq_ix3 x)).trans ?_
  exact piece_first q kp kc bias sk f 0 oR hR g u w (x 1) (x 2) hS h0 h1 h2 h3 V0 V1 K0 K1 hV0 hV1 hK0 hK1 b0 b1 k0 k1 t hf
    (query_pair q 0 oR (by omega) (by omega) hR g u w (x 1) hu hw) hb0 hb1 hk0 hk1 (x 0)

end use
end Cert.KernelIdeal.Att

end
-- ==== Proof.AttStep.lean ====
module

public import proofs.«01_k».proof.Proof.Gen.KernelIdeal.Value
public import proofs.«01_k».proof.Proof.AttBlock
public import Idealize.ShloMosaic.Lib.Pipeline.ValueKit

@[expose] public section

set_option maxRecDepth 16384

/-! The attention call: what one grid point stores, from the blocks it reads and the scratch it keeps. -/

noncomputable section
open Idealize.ShloMosaic Idealize.ShloMosaic.TcCoe Idealize.SL.Sem
open Idealize.ShloMosaic.Pipeline (Dat)
namespace Cert.KernelIdeal.Att
open Cert.KernelIdeal Cert.KernelIdeal.Gen Cert.Att
variable (m : (ℓ : Loc nD τ sig) → Buf (Elt Ideal) ℓ)

set_option maxHeartbeats 8000000 in
/-- A later point's block, from its own blocks and the scratch of the point before. -/
theorem outs_B (c : Dev nD) (t : Fin cfg0.N) (h : ¬t.val % 16 = 0) :
    (outsAt0 m c t.val t.isLt).1 = fun y => blockAt (iblk m c 2 t) (iblk m c 4 t) (iblk m c 3 t)
      (outsAt0 m c (t.val - 1) (by omega)).2.1 (outsAt0 m c (t.val - 1) (by omega)).2.2 ((grid0.coords t 1).val = 0) (y 1) (y 2) := by
  rw [outsAt0_B m c t h]
  frame_out
  funext y
  canon_tiles x h
  iterate 14
    · refine later _ _ _ _ _ _ 3 (holds_swap_lows 384 _ _ (by decide)) (holds_highs 384 _ _ (by decide)) (holds_swap_lows 128 _ _ (by decide)) (holds_highs 128 _ _ (by decide)) (by decide)
        (by decide) (by decide) (by decide) h1 ?_ ?_ ?_ ?_ ?_ ?_ ?_
      · simp only [Fin.isValue, Fin.reduceFinMk]; omega
      all_goals intros; pointwise; exact congrFun (Memref.IsWhole.read_unread _ _) _
  iterate 2
    · refine first _ _ _ _ _ _ 3 (holds_swap_lows 384 _ _ (by decide)) (holds_highs 384 _ _ (by decide)) (holds_swap_lows 128 _ _ (by decide)) (holds_highs 128 _ _ (by decide)) (by decide)
        Iff.rfl (h1.trans (Nat.zero_add _).symm) ?_ ?_ ?_ ?_ ?_ ?_ ?_
      · simp only [Fin.isValue, Fin.reduceFinMk]; omega
      all_goals intros; pointwise; exact congrFun (Memref.IsWhole.read_unread _ _) _
  iterate 14
    · refine later _ _ _ _ _ _ 2 (holds_lows 384 _ _ (by decide)) (holds_swap_highs 384 _ _ (by decide)) (holds_lows 128 _ _ (by decide)) (holds_swap_highs 128 _ _ (by decide)) (by decide)
        (by decide) (by decide) (by decide) h1 ?_ ?_ ?_ ?_ ?_ ?_ ?_
      · simp only [Fin.isValue, Fin.reduceFinMk]; omega
      all_goals intros; pointwise; exact congrFun (Memref.IsWhole.read_unread _ _) _
  iterate 2
    · refine first _ _ _ _ _ _ 2 (holds_lows 384 _ _ (by decide)) (holds_swap_highs 384 _ _ (by decide)) (holds_lows 128 _ _ (by decide)) (holds_swap_highs 128 _ _ (by decide)) (by decide)
        Iff.rfl (h1.trans (Nat.zero_add _).symm) ?_ ?_ ?_ ?_ ?_ ?_ ?_
      · simp only [Fin.isValue, Fin.reduceFinMk]; omega
      all_goals intros; pointwise; exact congrFun (Memref.IsWhole.read_unread _ _) _
  iterate 14
    · refine later _ _ _ _ _ _ 1 (holds_swap_lows 256 _ _ (by decide)) (holds_highs 256 _ _ (by decide)) (holds_swap_lows 0 _ _ (by decide)) (holds_highs 0 _ _ (by decide)) (by decide)
        (by decide) (by decide) (by decide) h1 ?_ ?_ ?_ ?_ ?_ ?_ ?_
      · simp only [Fin.isValue, Fin.reduceFinMk]; omega
      all_goals intros; pointwise; exact congrFun (Memref.IsWhole.read_unread _ _) _
  iterate 2
    · refine first _ _ _ _ _ _ 1 (holds_swap_lows 256 _ _ (by decide)) (holds_highs 256 _ _ (by decide)) (holds_swap_lows 0 _ _ (by decide)) (holds_highs 0 _ _ (by decide)) (by decide)
        Iff.rfl (h1.trans (Nat.zero_add _).symm) ?_ ?_ ?_ ?_ ?_ ?_ ?_
      · simp only [Fin.isValue, Fin.reduceFinMk]; omega
      all_goals intros; pointwise; exact congrFun (Memref.IsWhole.read_unread _ _) _
  iterate 14
    · refine later _ _ _ _ _ _ 0 (holds_lows 256 _ _ (by decide)) (holds_swap_highs 256 _ _ (by decide)) (holds_lows 0 _ _ (by decide)) (holds_swap_highs 0 _ _ (by decide)) (by decide)
        (by decide) (by decide) (by decide) h1 ?_ ?_ ?_ ?_ ?_ ?_ ?_
      · simp only [Fin.isValue, Fin.reduceFinMk]; omega
      all_goals intros; pointwise; exact congrFun (Memref.IsWhole.read_unread _ _) _
  iterate 2
    · refine first _ _ _ _ _ _ 0 (holds_lows 256 _ _ (by decide)) (holds_swap_highs 256 _ _ (by decide)) (holds_lows 0 _ _ (by decide)) (holds_swap_highs 0 _ _ (by decide)) (by decide)
        Iff.rfl (h1.trans (Nat.zero_add _).symm) ?_ ?_ ?_ ?_ ?_ ?_ ?_
      · simp only [Fin.isValue, Fin.reduceFinMk]; omega
      all_goals intros; pointwise; exact congrFun (Memref.IsWhole.read_unread _ _) _

end Cert.KernelIdeal.Att
-- ==== Proof.AttStart.lean ====
module

public import proofs.«01_k».proof.Proof.AttStep

@[expose] public section

set_option maxRecDepth 16384

/-! The attention call: what the first grid point stores, from the blocks it reads and the scratch it fills. -/

noncomputable section
open Idealize.ShloMosaic Idealize.ShloMosaic.TcCoe Idealize.SL.Sem
open Idealize.ShloMosaic.Pipeline (Dat)
namespace Cert.KernelIdeal.Att
open Cert.KernelIdeal Cert.KernelIdeal.Gen Cert.Att
variable (m : (ℓ : Loc nD τ sig) → Buf (Elt Ideal) ℓ)

/-- A load after the stores that make up `B` reads `B`. -/
theorem readCov_of {sig : RefSig} {κ : Kind} {sp : Space} {s : Shape} {e : EltTy} {v : View sig κ sp s e}
    {L : List (View.Piece (Elt Ideal) s e)} {B : s.Idx → Elt Ideal e} (h : View.canon L = B) (r : Rect s) :
    v.readCov L r.toLoadRect = View.ld B r := by
  rw [View.readCov_eq_canon', h]

set_option maxHeartbeats 8000000 in
/-- The first point's block, from its own blocks and the scratch it leaves. -/
theorem outs_A (c : Dev nD) (t : Fin cfg0.N) (h : t.val % 16 = 0) :
    (outsAt0 m c t.val t.isLt).1 = fun y => blockAt (iblk m c 2 t) (iblk m c 4 t) (iblk m c 3 t)
      (outsAt0 m c t.val t.isLt).2.1 (outsAt0 m c t.val t.isLt).2.2 ((grid0.coords t 1).val = 0) (y 1) (y 2) := by
  generalize eB : (outsAt0 m c t.val t.isLt).2.1 = B
  generalize eK : (outsAt0 m c t.val t.isLt).2.2 = K
  rw [outsAt0_A m c t h] at eB eK ⊢
  frame_out at eB
  frame_out at eK
  frame_out
  funext y
  canon_tiles x h
  iterate 14
    · refine later _ _ _ _ _ _ 3 (holds_swap_lows 384 _ _ (by decide)) (holds_highs 384 _ _ (by decide)) (holds_swap_lows 128 _ _ (by decide)) (holds_highs 128 _ _ (by decide)) (by decide)
        (by decide) (by decide) (by decide) h1 ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 2
    · refine first _ _ _ _ _ _ 3 (holds_swap_lows 384 _ _ (by decide)) (holds_highs 384 _ _ (by decide)) (holds_swap_lows 128 _ _ (by decide)) (holds_highs 128 _ _ (by decide)) (by decide)
        Iff.rfl (h1.trans (Nat.zero_add _).symm) ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 14
    · refine later _ _ _ _ _ _ 2 (holds_lows 384 _ _ (by decide)) (holds_swap_highs 384 _ _ (by decide)) (holds_lows 128 _ _ (by decide)) (holds_swap_highs 128 _ _ (by decide)) (by decide)
        (by decide) (by decide) (by decide) h1 ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 2
    · refine first _ _ _ _ _ _ 2 (holds_lows 384 _ _ (by decide)) (holds_swap_highs 384 _ _ (by decide)) (holds_lows 128 _ _ (by decide)) (holds_swap_highs 128 _ _ (by decide)) (by decide)
        Iff.rfl (h1.trans (Nat.zero_add _).symm) ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 14
    · refine later _ _ _ _ _ _ 1 (holds_swap_lows 256 _ _ (by decide)) (holds_highs 256 _ _ (by decide)) (holds_swap_lows 0 _ _ (by decide)) (holds_highs 0 _ _ (by decide)) (by decide)
        (by decide) (by decide) (by decide) h1 ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 2
    · refine first _ _ _ _ _ _ 1 (holds_swap_lows 256 _ _ (by decide)) (holds_highs 256 _ _ (by decide)) (holds_swap_lows 0 _ _ (by decide)) (holds_highs 0 _ _ (by decide)) (by decide)
        Iff.rfl (h1.trans (Nat.zero_add _).symm) ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 14
    · refine later _ _ _ _ _ _ 0 (holds_lows 256 _ _ (by decide)) (holds_swap_highs 256 _ _ (by decide)) (holds_lows 0 _ _ (by decide)) (holds_swap_highs 0 _ _ (by decide)) (by decide)
        (by decide) (by decide) (by decide) h1 ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise
  iterate 2
    · refine first _ _ _ _ _ _ 0 (holds_lows 256 _ _ (by decide)) (holds_swap_highs 256 _ _ (by decide)) (holds_lows 0 _ _ (by decide)) (holds_swap_highs 0 _ _ (by decide)) (by decide)
        Iff.rfl (h1.trans (Nat.zero_add _).symm) ?_ ?_ ?_ ?_ ?_ ?_ ?_
      · simp only [Fin.isValue, Fin.reduceFinMk]; omega
      · intros; pointwise; exact congrFun (Memref.IsWhole.read_unread _ _) _
      · intros; pointwise; exact congrFun (Memref.IsWhole.read_unread _ _) _
      · intros; rw [readCov_of eB]; pointwise
      · intros; rw [readCov_of eB]; pointwise
      · intros; rw [readCov_of eK]; pointwise
      · intros; rw [readCov_of eK]; pointwise

end Cert.KernelIdeal.Att
-- ==== Proof.AttBias.lean ====
module

public import proofs.«01_k».proof.Proof.Gen.KernelIdeal.Skeleton
public import proofs.«01_k».proof.Proof.AttMath
public import Idealize.ShloMosaic.Lib.WordCmp

@[expose] public section

set_option maxRecDepth 16384

/-! The attention call: the relative bias and the sinks the first grid point leaves in its scratch, at an element. -/

noncomputable section
open Idealize.ShloMosaic Idealize.ShloMosaic.TcCoe Idealize.SL.Sem
namespace Cert.KernelIdeal.Att
open Cert.KernelIdeal Cert.KernelIdeal.Gen Cert.Att

/-- The bucket of each key and query. -/
def buckets : IVec S256x128 32 := k0_pay5 k0_pay2 k0_pay4

/-- The first `n` entries of a table looked up by bucket, zero elsewhere. -/
def lookup (tab : (b : ℕ) → b < 32 → EReal) : (n : ℕ) → n ≤ 32 → FVec Ideal S256x128 .f32
  | 0, _ => broadcast S256x128 (Scalar.ofBits (F := Ideal) .f32 0x00000000#32)
  | n + 1, h => select (cmpi .eq buckets (broadcast S256x128 (BitVec.ofNat 32 n)))
      (broadcast S256x128 (tab n h : Ideal .f32)) (lookup tab n (Nat.le_of_succ_le h))

/-- The bias of one head, as the block stores it. -/
def biasOp (tab : (b : ℕ) → b < 32 → EReal) : FVec Ideal S1x256x128 .f32 :=
  shapeCast S1x256x128 (select k0_pay3 (lookup tab 32 (Nat.le_refl 32))
    (broadcast S256x128 (Named.named (F := Ideal) κ "mask" 0xF149F2CA#32 : Ideal .f32))) shapeCasts_S256x128_S1x256x128

/-- The sink of one head, as the block stores it. -/
def sinkOp (k : EReal) : FVec Ideal S1x8x128 .f32 := shapeCast S1x8x128 (broadcast S8x128 (k : Ideal .f32)) shapeCasts_S8x128_S1x8x128

/-- A head's sink, at an element. -/
theorem sinkOp_at (k : EReal) (a : Fin 1) (i : Fin 8) (c : Fin 128) : sinkOp k (ix3 a i c) = k := by
  pointwise [sinkOp]

/-- A table's looked-up entry: the entry of the bucket, where that is among the first `n`. -/
theorem lookup_at (tab : (b : ℕ) → b < 32 → EReal) (i : Fin 256) (c : Fin 128) (w : ℕ) (hw : w < 32)
    (hb : buckets (ix2 i c) = BitVec.ofNat 32 w) : ∀ (n : ℕ) (h : n ≤ 32), w < n → lookup tab n h (ix2 i c) = tab w hw := by
  intro n
  induction n with
  | zero => intro h h'; omega
  | succ n ih =>
    intro h h'
    have e : lookup tab (n + 1) h (ix2 i c) = if BitVec.ofNat 32 w = BitVec.ofNat 32 n then tab n h
        else lookup tab n (Nat.le_of_succ_le h) (ix2 i c) := by
      pointwise [lookup, hb]
      by_cases hn : BitVec.ofNat 32 w = BitVec.ofNat 32 n
      · simp [Scalar.select, IntOp.cmpi, hn]
      · simp [Scalar.select, IntOp.cmpi, hn, beq_eq_false_iff_ne.mpr hn]
    rw [e]
    by_cases hn : w = n
    · subst hn; rw [if_pos rfl]
    · rw [if_neg (fun h => hn (by have := congrArg BitVec.toNat h; simp only [BitVec.toNat_ofNat] at this; omega)), ih _ (by omega)]

/-- The distance from a key to a query, where it is between 0 and 127. -/
theorem dist_at (i : Fin 256) (c : Fin 128) (h : i.val ≤ c + 128) :
    k0_pay2 (ix2 i c) = BitVec.ofNat 32 (c.val + 128 - i) := by
  pointwise [k0_pay2]
  have := i.isLt
  have := c.isLt
  refine BitVec.eq_of_toNat_eq ?_
  simp only [IntOp.subi, IntOp.addi, BitVec.toNat_sub, BitVec.toNat_add, BitVec.toNat_ofNat]
  omega

/-- The bucket of a distance below 128, in words. -/
theorem bucket_word : ∀ n : Fin 128, Scalar.select (IntOp.cmpi CmpIPredicate.slt (BitVec.ofNat 32 n) 16#32) (BitVec.ofNat 32 n)
    (steps.foldl (fun s k => IntOp.addi s (BitVec.setWidth 32 (IntOp.cmpi CmpIPredicate.sge (BitVec.ofNat 32 n) (BitVec.ofNat 32 k)))) 16#32)
      = BitVec.ofNat 32 (bucket n) := by decide +kernel

/-- The bucket, where the distance is between 0 and 127. -/
theorem buckets_at (i : Fin 256) (c : Fin 128) (h : i.val ≤ c + 128) (h' : c.val + 128 - i < 128) :
    buckets (ix2 i c) = BitVec.ofNat 32 (bucket (c + 128 - i)) := by
  have e := dist_at i c h
  generalize c.val + 128 - i.val = n at e h' ⊢
  pointwise [buckets, k0_pay4, k0_pay5, e]
  exact bucket_word ⟨n, h'⟩

/-- The band of distances from 0 to 127. -/
theorem band_at (i : Fin 256) (c : Fin 128) :
    k0_pay3 (ix2 i c) = if i.val ≤ c + 128 ∧ c.val < i then 1#1 else 0#1 := by
  pointwise [k0_pay3, k0_pay2]
  word_cmp
  have hi := i.isLt
  have hc := c.isLt
  have e : (IntOp.subi (IntOp.addi (BitVec.ofNat 32 c.val) 128#32) (BitVec.ofNat 32 i.val)).toNat
      = (c.val + 128 + (2 ^ 32 - i.val)) % 2 ^ 32 := by
    simp only [IntOp.subi, IntOp.addi, BitVec.toNat_sub, BitVec.toNat_add, BitVec.toNat_ofNat]
    omega
  rw [e]
  by_cases h : i.val ≤ c + 128 ∧ c.val < i
  · rw [if_pos h, show decide (_ < 128) = true from decide_eq_true (by omega)]; rfl
  · rw [if_neg h, show decide (_ < 128) = false from decide_eq_false (by omega)]; rfl

/-- A head's bias, at an element. -/
theorem biasOp_at (tab : (b : ℕ) → b < 32 → EReal) (a : Fin 1) (i : Fin 256) (c : Fin 128) :
    biasOp tab (ix3 a i c) = if i.val ≤ c + 128 ∧ c.val < i then tab (bucket (c + 128 - i)) (bucket_lt _) else ⊥ := by
  pointwise [biasOp, band_at]
  rw [IdealRules.named_const.ideal_named_scalar κ "mask" (φ := .f32) _ ⊥ rfl]
  split
  · next h =>
    rw [lookup_at tab i c (bucket (c + 128 - i)) (bucket_lt _) (buckets_at i c h.1 (by omega)) 32 _ (bucket_lt _)]
    exact if_pos rfl
  · simp [Scalar.select]

end Cert.KernelIdeal.Att
-- ==== Proof.AttFill.lean ====
module

public import proofs.«01_k».proof.Proof.AttStart
public import proofs.«01_k».proof.Proof.AttBias

@[expose] public section

set_option maxRecDepth 16384

/-! The attention call: the scratch after every grid point, and so the block every point stores. -/

noncomputable section
open Idealize.ShloMosaic Idealize.ShloMosaic.TcCoe Idealize.SL.Sem
open Idealize.ShloMosaic.Pipeline (Dat)
namespace Cert.KernelIdeal.Att
open Cert.KernelIdeal Cert.KernelIdeal.Gen Cert.Att
variable (m : (ℓ : Loc nD τ sig) → Buf (Elt Ideal) ℓ)

/-- The entry's place lies in the table. -/
theorem inb_entry (h : Fin 16) (b : ℕ) (hb : b < 32) : ∀ a, (![b * 16 + h.val] : Fin 1 → ℕ) a + (![1] : Fin 1 → ℕ) a ≤ S512.size a := by
  intro a; fin_cases a; show b * 16 + h.val + 1 ≤ 512; omega

/-- The sink's place lies in its array. -/
theorem inb_sink (h : Fin 16) : ∀ a, (![h.val] : Fin 1 → ℕ) a + (![1] : Fin 1 → ℕ) a ≤ S16.size a := by
  intro a; fin_cases a; show h.val + 1 ≤ 16; omega

/-- A box of one entry is not empty. -/
theorem pos_one : 0 < (⟨1, ![1]⟩ : Shape).numel := by decide

/-- The table's entry of bucket `b` and head `h`, as it is loaded. -/
def entry (X : FVec Ideal S512 .f32) (h : Fin 16) (b : ℕ) (hb : b < 32) : EReal :=
  View.ld (Val := Elt Ideal) (e' := .f32) X (Rect.unit (s := S512) ![b * 16 + h] ![1] (inb_entry h b hb)) (Shape.Idx.first pos_one)

/-- The table's entry, by its index. -/
theorem entry_at (X : FVec Ideal S512 .f32) (h : Fin 16) (b : ℕ) (hb : b < 32) : entry X h b hb = X (ix1 ⟨b * 16 + h, by omega⟩) := by
  refine congrArg X (funext fun a => ?_)
  fin_cases a
  rfl

/-- The sink of head `h`, as it is loaded. -/
def sinkEntry (X : FVec Ideal S16 .f32) (h : Fin 16) : EReal :=
  View.ld (Val := Elt Ideal) (e' := .f32) X (Rect.unit (s := S16) ![h.val] ![1] (inb_sink h)) (Shape.Idx.first pos_one)

/-- The sink, by its index. -/
theorem sinkEntry_at (X : FVec Ideal S16 .f32) (h : Fin 16) : sinkEntry X h = X (ix1 h) := by
  refine congrArg X (funext fun a => ?_)
  fin_cases a
  rfl

/-- The head of a scratch row and column. -/
def headOf (G : Fin 8) (C : Fin 256) : Fin 16 := ⟨4 * (G / 2) + 2 * (C / 128) + G % 2, by omega⟩

/-- The relative bias of the table `X` in the scratch: minus infinity outside the band. -/
def biasAt (X : FVec Ideal S512 .f32) (G : Fin 8) (i C : Fin 256) : EReal :=
  if i.val ≤ C % 128 + 128 ∧ C.val % 128 < i then
    X (ix1 ⟨bucket (C % 128 + 128 - i) * 16 + headOf G C, by have := bucket_lt (C % 128 + 128 - i); omega⟩) else ⊥

/-- One head's stored bias, at an element and where it lands. -/
theorem bias_piece (X : FVec Ideal S512 .f32) (h : Fin 16) (G C : ℕ) (hG : G < 8) (hC : C = 0 ∨ C = 128)
    (hh : h.val = 4 * (G / 2) + 2 * (C / 128) + G % 2) (x : S1x256x128.Idx) (y : S8x256x256.Idx)
    (h0 : (y 0).val = G + (x 0).val) (h1 : (y 1).val = (x 1).val) (h2 : (y 2).val = C + (x 2).val) :
    biasOp (entry X h) x = biasAt X (y 0) (y 1) (y 2) := by
  have x0 : (x 0).val < 1 := (x 0).isLt
  have x2 : (x 2).val < 128 := (x 2).isLt
  refine (congrArg (biasOp (entry X h)) (eq_ix3 x)).trans ((biasOp_at (entry X h) (x 0) (x 1) (x 2)).trans ?_)
  have e0 : headOf (y 0) (y 2) = h := Fin.ext (by simp only [headOf]; omega)
  have e1 : (y 1 : Fin 256) = (x 1 : Fin 256) := Fin.ext h1
  have e2 : (y 2).val % 128 = (x 2).val := by omega
  unfold biasAt
  simp only [e0, e1, e2, entry_at]

/-- One head's stored sink, at an element and where it lands. -/
theorem sink_piece (X : FVec Ideal S16 .f32) (h : Fin 16) (G C : ℕ) (hG : G < 8) (hC : C = 0 ∨ C = 128)
    (hh : h.val = 4 * (G / 2) + 2 * (C / 128) + G % 2) (x : S1x8x128.Idx) (y : S8x8x256.Idx)
    (h0 : (y 0).val = G + (x 0).val) (h2 : (y 2).val = C + (x 2).val) :
    sinkOp (sinkEntry X h) x = X (ix1 (headOf (y 0) (y 2))) := by
  have x0 : (x 0).val < 1 := (x 0).isLt
  have x2 : (x 2).val < 128 := (x 2).isLt
  refine (congrArg (sinkOp (sinkEntry X h)) (eq_ix3 x)).trans ((sinkOp_at (sinkEntry X h) (x 0) (x 1) (x 2)).trans ?_)
  have e0 : headOf (y 0) (y 2) = h := Fin.ext (by simp only [headOf]; omega)
  rw [e0, sinkEntry_at]

set_option maxHeartbeats 8000000 in
/-- The first point fills the bias scratch from its table. -/
theorem fill_bias (c : Dev nD) (t : Fin cfg0.N) (h : t.val % 16 = 0) :
    (outsAt0 m c t.val t.isLt).2.1 = fun y => biasAt (iblk m c 0 t) (y 0) (y 1) (y 2) := by
  rw [outsAt0_A m c t h]
  frame_out
  funext y
  canon_tiles x h
  · exact bias_piece (iblk m c 0 t) 15 7 128 (by decide) (by decide) rfl x y (by omega) h1 (by omega)
  · exact bias_piece (iblk m c 0 t) 13 7 0 (by decide) (by decide) rfl x y (by omega) h1 (by omega)
  · exact bias_piece (iblk m c 0 t) 14 6 128 (by decide) (by decide) rfl x y (by omega) h1 (by omega)
  · exact bias_piece (iblk m c 0 t) 12 6 0 (by decide) (by decide) rfl x y (by omega) h1 (by omega)
  · exact bias_piece (iblk m c 0 t) 11 5 128 (by decide) (by decide) rfl x y (by omega) h1 (by omega)
  · exact bias_piece (iblk m c 0 t) 9 5 0 (by decide) (by decide) rfl x y (by omega) h1 (by omega)
  · exact bias_piece (iblk m c 0 t) 10 4 128 (by decide) (by decide) rfl x y (by omega) h1 (by omega)
  · exact bias_piece (iblk m c 0 t) 8 4 0 (by decide) (by decide) rfl x y (by omega) h1 (by omega)
  · exact bias_piece (iblk m c 0 t) 7 3 128 (by decide) (by decide) rfl x y (by omega) h1 (by omega)
  · exact bias_piece (iblk m c 0 t) 5 3 0 (by decide) (by decide) rfl x y (by omega) h1 (by omega)
  · exact bias_piece (iblk m c 0 t) 6 2 128 (by decide) (by decide) rfl x y (by omega) h1 (by omega)
  · exact bias_piece (iblk m c 0 t) 4 2 0 (by decide) (by decide) rfl x y (by omega) h1 (by omega)
  · exact bias_piece (iblk m c 0 t) 3 1 128 (by decide) (by decide) rfl x y (by omega) h1 (by omega)
  · exact bias_piece (iblk m c 0 t) 1 1 0 (by decide) (by decide) rfl x y (by omega) h1 (by omega)
  · exact bias_piece (iblk m c 0 t) 2 0 128 (by decide) (by decide) rfl x y (by omega) h1 (by omega)
  · exact bias_piece (iblk m c 0 t) 0 0 0 (by decide) (by decide) rfl x y (by omega) h1 (by omega)

set_option maxHeartbeats 8000000 in
/-- The first point fills the sink scratch from the sinks. -/
theorem fill_sink (c : Dev nD) (t : Fin cfg0.N) (h : t.val % 16 = 0) :
    (outsAt0 m c t.val t.isLt).2.2 = fun y => iblk m c 1 t (ix1 (headOf (y 0) (y 2))) := by
  rw [outsAt0_A m c t h]
  frame_out
  funext y
  canon_tiles x h
  · exact sink_piece (iblk m c 1 t) 15 7 128 (by decide) (by decide) rfl x y (by omega) (by omega)
  · exact sink_piece (iblk m c 1 t) 13 7 0 (by decide) (by decide) rfl x y (by omega) (by omega)
  · exact sink_piece (iblk m c 1 t) 14 6 128 (by decide) (by decide) rfl x y (by omega) (by omega)
  · exact sink_piece (iblk m c 1 t) 12 6 0 (by decide) (by decide) rfl x y (by omega) (by omega)
  · exact sink_piece (iblk m c 1 t) 11 5 128 (by decide) (by decide) rfl x y (by omega) (by omega)
  · exact sink_piece (iblk m c 1 t) 9 5 0 (by decide) (by decide) rfl x y (by omega) (by omega)
  · exact sink_piece (iblk m c 1 t) 10 4 128 (by decide) (by decide) rfl x y (by omega) (by omega)
  · exact sink_piece (iblk m c 1 t) 8 4 0 (by decide) (by decide) rfl x y (by omega) (by omega)
  · exact sink_piece (iblk m c 1 t) 7 3 128 (by decide) (by decide) rfl x y (by omega) (by omega)
  · exact sink_piece (iblk m c 1 t) 5 3 0 (by decide) (by decide) rfl x y (by omega) (by omega)
  · exact sink_piece (iblk m c 1 t) 6 2 128 (by decide) (by decide) rfl x y (by omega) (by omega)
  · exact sink_piece (iblk m c 1 t) 4 2 0 (by decide) (by decide) rfl x y (by omega) (by omega)
  · exact sink_piece (iblk m c 1 t) 3 1 128 (by decide) (by decide) rfl x y (by omega) (by omega)
  · exact sink_piece (iblk m c 1 t) 1 1 0 (by decide) (by decide) rfl x y (by omega) (by omega)
  · exact sink_piece (iblk m c 1 t) 2 0 128 (by decide) (by decide) rfl x y (by omega) (by omega)
  · exact sink_piece (iblk m c 1 t) 0 0 0 (by decide) (by decide) rfl x y (by omega) (by omega)

end Cert.KernelIdeal.Att
-- ==== Proof.AttArray.lean ====
module

public import proofs.«01_k».proof.Proof.AttFill

@[expose] public section

set_option maxRecDepth 16384

/-! The attention call: what the result array holds after the run. -/

noncomputable section
open Idealize.ShloMosaic Idealize.ShloMosaic.TcCoe Idealize.SL.Sem
open Idealize.ShloMosaic.Pipeline (Dat)
namespace Cert.KernelIdeal.Att
open Cert.KernelIdeal Cert.KernelIdeal.Gen Cert.Att
variable (m : (ℓ : Loc nD τ sig) → Buf (Elt Ideal) ℓ)

/-- Which block each window reads or writes at grid point `t`. -/
theorem idx : ∀ t : Fin cfg0.N, win0_0.index t = ![0] ∧ win0_1.index t = ![0]
    ∧ win0_2.index t = ![t.val / 8, t.val % 8, 0] ∧ win0_3.index t = ![t.val / 8, t.val % 8, 0]
    ∧ win0_4.index t = ![t.val / 8, 8 * (t.val % 8) - 1, 0] ∧ win0_5.index t = ![t.val / 8, t.val % 8, 0] :=
  (by decide +kernel : ∀ t : Fin grid0.N, _)

/-- The position along the sequence of a grid point. -/
theorem coord : ∀ t : Fin cfg0.N, (grid0.coords t 1).val = t.val % 8 :=
  (by decide +kernel : ∀ t : Fin grid0.N, (grid0.coords t 1).val = t.val % 8)

/-- The arguments as arrays. -/
abbrev aQ (c : Dev nD) : FVec Ideal S2x8192x1024 .bf16 := m ((c : Thread nD τ).loc main_arg0)
abbrev aKV (c : Dev nD) : FVec Ideal S2x8192x512 .f32 := m ((c : Thread nD τ).loc main_arg1)
abbrev aRB (c : Dev nD) : FVec Ideal S32x16 .f32 := m ((c : Thread nD τ).loc main_arg2)
abbrev aSk (c : Dev nD) : FVec Ideal S16 .f32 := m ((c : Thread nD τ).loc main_arg3)

/-- The blocks of point `t`, as arrays. -/
abbrev bTab (c : Dev nD) (t : Fin cfg0.N) : FVec Ideal S512 .f32 := iblk m c 0 t
abbrev bSk (c : Dev nD) (t : Fin cfg0.N) : FVec Ideal S16 .f32 := iblk m c 1 t
abbrev bQ (c : Dev nD) (t : Fin cfg0.N) : FVec Ideal S1x1024x1024 .bf16 := iblk m c 2 t
abbrev bK (c : Dev nD) (t : Fin cfg0.N) : FVec Ideal S1x1024x512 .f32 := iblk m c 3 t
abbrev bKp (c : Dev nD) (t : Fin cfg0.N) : FVec Ideal S1x128x512 .f32 := iblk m c 4 t

theorem bQ_at (c : Dev nD) (t : Fin cfg0.N) (r d : Fin 1024) (h : t.val / 8 < 2) (h' : t.val % 8 * 1024 + r < 8192) :
    bQ m c t (ix3 0 r d) = aQ m c (ix3 ⟨t.val / 8, h⟩ ⟨t.val % 8 * 1024 + r, h'⟩ d) := by
  blk_ext [iblk, V, idx t]
theorem bK_at (c : Dev nD) (t : Fin cfg0.N) (r : Fin 1024) (d : Fin 512) (h : t.val / 8 < 2) (h' : t.val % 8 * 1024 + r < 8192) :
    bK m c t (ix3 0 r d) = aKV m c (ix3 ⟨t.val / 8, h⟩ ⟨t.val % 8 * 1024 + r, h'⟩ d) := by
  blk_ext [iblk, V, idx t]
theorem bKp_at (c : Dev nD) (t : Fin cfg0.N) (r : Fin 128) (d : Fin 512) (h : t.val / 8 < 2) (h' : (8 * (t.val % 8) - 1) * 128 + r < 8192) :
    bKp m c t (ix3 0 r d) = aKV m c (ix3 ⟨t.val / 8, h⟩ ⟨(8 * (t.val % 8) - 1) * 128 + r, h'⟩ d) := by
  blk_ext [iblk, V, idx t]
theorem bSk_at (c : Dev nD) (t : Fin cfg0.N) (k : Fin 16) : bSk m c t (ix1 k) = aSk m c (ix1 k) := by
  blk_ext [iblk, V, idx t]
theorem bTab_at (c : Dev nD) (t : Fin cfg0.N) (k : Fin 512) :
    bTab m c t (ix1 k) = aRB m c (ix2 ⟨k / 16, by omega⟩ ⟨k % 16, by omega⟩) := by
  unfold bTab iblk
  entry_read
  blk_simp
  pointwise
  blk_ext [idx t]

/-- The scratch keeps what the first point left in it. -/
theorem scratch_at (c : Dev nD) : ∀ (n : ℕ) (hn : n < cfg0.N),
    (outsAt0 m c n hn).2.1 = (fun y => biasAt (bTab m c ⟨0, by decide⟩) (y 0) (y 1) (y 2))
      ∧ (outsAt0 m c n hn).2.2 = (fun y => bSk m c ⟨0, by decide⟩ (ix1 (headOf (y 0) (y 2)))) := by
  intro n
  induction n with
  | zero => exact fun hn => ⟨fill_bias m c ⟨0, hn⟩ rfl, fill_sink m c ⟨0, hn⟩ rfl⟩
  | succ n ih =>
    intro hn
    have hN : n + 1 < 16 := lt_of_lt_of_eq hn N_0
    have := ih (Nat.lt_of_succ_lt hn)
    rw [outsAt0_B m c ⟨n + 1, hn⟩ (by dsimp only; omega)]
    frame_out
    exact this

end Cert.KernelIdeal.Att
-- ==== Proof.AttSpec.lean ====
module

public import proofs.«01_k».proof.Proof.AttMath

@[expose] public section

/-! The attention call's function: sliding-window attention with a relative bias and a sink per head, in plain terms. -/

noncomputable section
open Idealize.ShloMosaic Idealize.ShloMosaic.TcCoe Idealize.SL.Sem
namespace Cert.Att
variable (q : (⟨3, ![2, 8192, 1024]⟩ : Shape).Idx → EReal) (kv : (⟨3, ![2, 8192, 512]⟩ : Shape).Idx → EReal)
  (rb : (⟨2, ![32, 16]⟩ : Shape).Idx → EReal) (sk : (⟨1, ![16]⟩ : Shape).Idx → EReal)

/-- Entry `e` of row `a` of the 256 rows that the queries of block `b` see: rows `128 b - 128` on, zero before the sequence. -/
def rowAt (n : Fin 2) (b : Fin 64) (a : Fin 256) (e : Fin 512) : EReal :=
  if h : 128 ≤ b.val * 128 + a then kv (ix3 n ⟨b.val * 128 + a - 128, by omega⟩ e) else 0

/-- Key `a` is in the sequence, not after query `c` of block `b`, and less than 128 before it. -/
abbrev seen (b : Fin 64) (c : Fin 128) (a : Fin 256) : Prop := (a.val ≤ c + 128 ∧ c.val < a) ∧ 128 ≤ b.val * 128 + a

/-- The logit of query `c` of block `b` in head `h` at key `a`: product plus relative bias, minus infinity where the key is not
seen. -/
def logit (n : Fin 2) (b : Fin 64) (c : Fin 128) (h : Fin 16) (a : Fin 256) : EReal :=
  if seen b c a then
    ∑ d : Fin 64, rowAt kv n b a ⟨64 * (h.val / 4) + d, by omega⟩ * q (ix3 n ⟨b.val * 128 + c, by omega⟩ ⟨64 * h.val + d, by omega⟩)
      + rb (ix2 ⟨bucket (c + 128 - a), bucket_lt _⟩ h)
  else ⊥

/-- Element `(n, s, D)` of the result. -/
def resultAt (n : Fin 2) (s : Fin 8192) (D : Fin 1024) : EReal :=
  attend (logit q kv rb n ⟨s.val / 128, by omega⟩ ⟨s.val % 128, by omega⟩ ⟨D.val / 64, by omega⟩)
    (sk (ix1 ⟨D.val / 64, by omega⟩))
    (fun a => rowAt kv n ⟨s.val / 128, by omega⟩ a ⟨256 + 64 * (D.val / 256) + D.val % 64, by omega⟩)

/-- Values whose logits are minus infinity do not matter. -/
theorem attend_congr {s s' : Fin 256 → EReal} {k : EReal} {v v' : Fin 256 → EReal} (hs : s = s')
    (h : ∀ a, s' a ≠ ⊥ → v a = v' a) : attend s k v = attend s' k v' := by
  subst hs
  refine Finset.sum_congr rfl fun a _ => ?_
  by_cases e : s a = ⊥
  · simp only [weight, e, EReal.bot_sub, Ideal.exp_bot, zero_mul, mul_zero]
  · rw [h a e]

end Cert.Att

end
-- ==== Proof.AttFinal.lean ====
module

public import proofs.«01_k».proof.Proof.AttArray
public import proofs.«01_k».proof.Proof.AttSpec

@[expose] public section

set_option maxRecDepth 16384

/-! The attention call: what a block holds, and so the result array, in plain terms. -/

noncomputable section
open Idealize.ShloMosaic Idealize.ShloMosaic.TcCoe Idealize.SL.Sem
open Idealize.ShloMosaic.Pipeline (Dat)
namespace Cert.KernelIdeal.Att
open Cert.KernelIdeal Cert.KernelIdeal.Gen Cert.Att
variable (m : (ℓ : Loc nD τ sig) → Buf (Elt Ideal) ℓ)

/-- A key row in reach of the block of point `t`, where it lies in the sequence. -/
theorem key_eq (c : Dev nD) (t : Fin cfg0.N) (hN : t.val < 16) (R : Fin 1024) (a : Fin 256) (e : Fin 512)
    (h : 128 ≤ (8 * (t.val % 8) + R.val / 128) * 128 + a.val) :
    keyRow (bKp m c t) (bK m c t) ⟨R.val / 128 * 128 + a, by omega⟩ e
      = rowAt (aKV m c) ⟨t.val / 8, by omega⟩ ⟨8 * (t.val % 8) + R.val / 128, by omega⟩ a e := by
  unfold keyRow rowAt
  rw [dif_pos h]
  split
  · next hr =>
    dsimp only at hr
    refine (bKp_at m c t _ e (by omega) (by dsimp only; omega)).trans (congrArg (fun r => aKV m c (ix3 _ r e)) (Fin.ext ?_))
    dsimp only
    omega
  · next hr =>
    dsimp only at hr
    refine (bK_at m c t _ e (by omega) (by dsimp only; omega)).trans (congrArg (fun r => aKV m c (ix3 _ r e)) (Fin.ext ?_))
    dsimp only
    omega

/-- The scratch's bias for a head, a key and a query. -/
theorem bias_eq (c : Dev nD) (t : Fin cfg0.N) (R : Fin 1024) (h : Fin 16) (a : Fin 256) :
    biasAt (bTab m c t) ⟨2 * (h.val / 4) + h.val % 2, by omega⟩ a ⟨128 * (h.val % 4 / 2) + R.val % 128, by omega⟩
      = if a.val ≤ R.val % 128 + 128 ∧ R.val % 128 < a.val then
          aRB m c (ix2 ⟨bucket (R.val % 128 + 128 - a.val), bucket_lt _⟩ h) else ⊥ := by
  unfold biasAt
  have e : (128 * (h.val % 4 / 2) + R.val % 128) % 128 = R.val % 128 := by omega
  have e' : (headOf ⟨2 * (h.val / 4) + h.val % 2, by omega⟩ ⟨128 * (h.val % 4 / 2) + R.val % 128, by omega⟩ : Fin 16) = h :=
    Fin.ext (by simp only [headOf]; omega)
  simp only [e, e']
  split
  · refine (bTab_at m c t _).trans (congrArg₂ (fun u v => aRB m c (ix2 u v)) (Fin.ext ?_) (Fin.ext ?_))
    · dsimp only; omega
    · dsimp only; omega
  · rfl

/-- The logits of a block's query. -/
theorem score_logit (c : Dev nD) (t u : Fin cfg0.N) (hN : t.val < 16) (f : Prop) [Decidable f] (hf : f ↔ t.val % 8 = 0)
    (R : Fin 1024) (h : Fin 16) (a : Fin 256) :
    score (bQ m c t) (bKp m c t) (bK m c t) (fun y => biasAt (bTab m c u) (y 0) (y 1) (y 2)) f R h a
      = logit (aQ m c) (aKV m c) (aRB m c) ⟨t.val / 8, by omega⟩ ⟨8 * (t.val % 8) + R.val / 128, by omega⟩
          ⟨R.val % 128, by omega⟩ h a := by
  unfold score logit
  have hb := bias_eq m c u R h a
  show ∑ d : Fin 64, _ + biasAt (bTab m c u) ⟨2 * (h.val / 4) + h.val % 2, _⟩ a ⟨128 * (h.val % 4 / 2) + R.val % 128, _⟩ + _ = _
  rw [hb]
  by_cases s : seen ⟨8 * (t.val % 8) + R.val / 128, by omega⟩ ⟨R.val % 128, by omega⟩ a
  · rw [if_pos s]
    obtain ⟨s1, s2⟩ := s
    dsimp only at s1 s2
    rw [if_pos s1, if_neg (fun h' => by have := hf.1 h'.2.2; omega), add_zero]
    refine congrArg (· + _) (Finset.sum_congr rfl fun d _ => ?_)
    rw [key_eq m c t hN R a _ s2]
    refine congrArg (_ * ·) ?_
    refine (bQ_at m c t R _ (by omega) (by omega)).trans (congrArg (fun r => aQ m c (ix3 _ r _)) (Fin.ext ?_))
    dsimp only
    omega
  · rw [if_neg s]
    by_cases s1 : a.val ≤ R.val % 128 + 128 ∧ R.val % 128 < a.val
    · have s2 : ¬128 ≤ (8 * (t.val % 8) + R.val / 128) * 128 + a.val := fun h2 => s ⟨s1, h2⟩
      rw [if_pos (c := R.val < 128 ∧ a.val < 128 ∧ f) ⟨by omega, by omega, hf.2 (by omega)⟩, EReal.add_bot]
    · rw [if_neg s1, EReal.add_bot, EReal.bot_add]

/-- Two weighted sums with the same logits and sink, and the same values where a logit is not minus infinity. -/
theorem attend_same {s s' : Fin 256 → EReal} {k k' : EReal} {v v' : Fin 256 → EReal} (hs : s = s') (hk : k = k')
    (h : ∀ a, s' a ≠ ⊥ → v a = v' a) : attend s k v = attend s' k' v' := by
  subst hk
  exact attend_congr hs h

/-- The block of point `t`, from the full scratch. -/
theorem block_eq (c : Dev nD) (t u : Fin cfg0.N) (hN : t.val < 16) (f : Prop) [Decidable f] (hf : f ↔ t.val % 8 = 0) (R D : Fin 1024) :
    blockAt (bQ m c t) (bKp m c t) (bK m c t) (fun y => biasAt (bTab m c u) (y 0) (y 1) (y 2))
        (fun y => bSk m c u (ix1 (headOf (y 0) (y 2)))) f R D
      = resultAt (aQ m c) (aKV m c) (aRB m c) (aSk m c) ⟨t.val / 8, by omega⟩ ⟨t.val % 8 * 1024 + R.val, by omega⟩ D := by
  have eb : (⟨(t.val % 8 * 1024 + R.val) / 128, by omega⟩ : Fin 64) = ⟨8 * (t.val % 8) + R.val / 128, by omega⟩ := Fin.ext (by dsimp only; omega)
  have ec : (⟨(t.val % 8 * 1024 + R.val) % 128, by omega⟩ : Fin 128) = ⟨R.val % 128, by omega⟩ := Fin.ext (by dsimp only; omega)
  unfold blockAt resultAt
  dsimp only
  rw [eb, ec]
  refine attend_same (funext fun a => score_logit m c t u hN f hf R _ a) ?_ fun a ha => ?_
  · refine (bSk_at m c u _).trans (congrArg (fun k => aSk m c (ix1 k)) (Fin.ext ?_))
    show 4 * ((2 * (D.val / 256) + D.val / 64 % 2) / 2) + 2 * ((128 * (D.val / 64 % 4 / 2) + R.val % 128) / 128)
      + (2 * (D.val / 256) + D.val / 64 % 2) % 2 = D.val / 64
    omega
  · refine key_eq m c t hN R a _ ?_
    by_contra h2
    exact ha (if_neg fun s => h2 s.2)

/-- What point `t` leaves in its block. -/
theorem outs_eq (c : Dev nD) (t : Fin cfg0.N) (hN : t.val < 16) :
    (outsAt0 m c t.val t.isLt).1 = fun y => resultAt (aQ m c) (aKV m c) (aRB m c) (aSk m c) ⟨t.val / 8, by omega⟩
      ⟨t.val % 8 * 1024 + (y 1).val, by have h : (y 1).val < 1024 := (y 1).isLt; omega⟩ (y 2) := by
  have hc : (grid0.coords t 1).val = 0 ↔ t.val % 8 = 0 := by rw [coord t]
  by_cases h : t.val % 16 = 0
  · rw [outs_A m c t h, (scratch_at m c t.val t.isLt).1, (scratch_at m c t.val t.isLt).2]
    funext y
    exact block_eq m c t _ hN _ hc (y 1) (y 2)
  · rw [outs_B m c t h, (scratch_at m c (t.val - 1) (by omega)).1, (scratch_at m c (t.val - 1) (by omega)).2]
    funext y
    exact block_eq m c t _ hN _ hc (y 1) (y 2)

/-- The result array as one function of the arguments. -/
def result (c : Dev nD) : FVec Ideal S2x8192x1024 .bf16 :=
  fun i => resultAt (aQ m c) (aKV m c) (aRB m c) (aSk m c) (i 0) (i 1) (i 2)

/-- What the result array holds after the run. -/
theorem final (c : Dev nD) : (dats m 0 c).arrAt 5 (cfgs 0).N = result m c := by
  refine (dats m 0 c).arrAt_eq_of_covers 5 _ (by decide +kernel) fun t hf y => ?_
  have hN : t.val < 16 := lt_of_lt_of_eq t.isLt N_0
  blk_simp
  rw [after0_5, outs_eq m c t hN]
  have hy0 : (y 0 : ℕ) < 1 := (y 0).isLt
  have hc : ∀ (n n' : Fin 2) (s s' : Fin 8192) (l l' : Fin 1024), n = n' → s = s' → l = l' →
      resultAt (aQ m c) (aKV m c) (aRB m c) (aSk m c) n s l = resultAt (aQ m c) (aKV m c) (aRB m c) (aSk m c) n' s' l' := by
    intro n n' s s' l l' h1 h2 h3; rw [h1, h2, h3]
  unfold result
  refine hc _ _ _ _ _ _ (Fin.ext ?_) (Fin.ext ?_) (Fin.ext ?_)
  all_goals (blk_simp [idx t] <;> (try dsimp only) <;> omega)

end Cert.KernelIdeal.Att
-- ==== Proof.AttBucket.lean ====
module

public import proofs.«01_k».proof.Proof.AttMath
public import Mathlib.Analysis.SpecialFunctions.Log.Basic

@[expose] public section

/-! The logarithmic form of the distance's bucket gives the same bucket as the steps. -/

noncomputable section
open Idealize.ShloMosaic Idealize.ShloMosaic.TcCoe Idealize.SL.Sem
namespace Cert.Att

/-- The whole part of `16 log (n / 16) / log 8`, from comparisons of whole numbers. -/
theorem floor_log {n b : ℕ} (hn : 0 < n) (h : 8 ^ b * 16 ^ 16 ≤ n ^ 16) (h' : n ^ 16 < 8 ^ (b + 1) * 16 ^ 16) :
    ⌊Real.log ((n : ℝ) * (1 / 16)) * (1 / Real.log 8) * 16⌋ = (b : ℤ) := by
  have h8 : 0 < Real.log 8 := Real.log_pos (by norm_num)
  have hx : (0 : ℝ) < (n : ℝ) * (1 / 16) := by positivity
  have e : Real.log ((n : ℝ) * (1 / 16)) * (1 / Real.log 8) * 16 = Real.log (((n : ℝ) * (1 / 16)) ^ 16) / Real.log 8 := by
    rw [Real.log_pow]; push_cast; ring
  have hp : (((n : ℝ) * (1 / 16)) ^ 16) * 16 ^ 16 = (n : ℝ) ^ 16 := by rw [← mul_pow]; congr 1; ring
  have h1 : (8 : ℝ) ^ b ≤ ((n : ℝ) * (1 / 16)) ^ 16 := by
    refine le_of_mul_le_mul_right (a := (16 : ℝ) ^ 16) ?_ (by positivity)
    rw [hp]; exact_mod_cast h
  have h2 : ((n : ℝ) * (1 / 16)) ^ 16 < (8 : ℝ) ^ (b + 1) := by
    refine lt_of_mul_lt_mul_right (a := (16 : ℝ) ^ 16) ?_ (by positivity)
    rw [hp]; exact_mod_cast h'
  rw [e, Int.floor_eq_iff]
  constructor
  · rw [le_div_iff₀ h8]
    have := Real.log_le_log (by positivity) h1
    rwa [Real.log_pow] at this
  · rw [div_lt_iff₀ h8]
    have := Real.log_lt_log (by positivity) h2
    rw [Real.log_pow 8 (b + 1)] at this
    simpa using this

/-- The comparisons, at each distance from 16 to 127. -/
theorem bucket_between : ∀ n : Fin 128, 16 ≤ n.val →
    8 ^ (bucket n - 16) * 16 ^ 16 ≤ n.val ^ 16 ∧ n.val ^ 16 < 8 ^ (bucket n - 16 + 1) * 16 ^ 16 := by decide +kernel

/-- Over the extended reals, cut to a word. -/
theorem log_word (n : Fin 128) (h : 16 ≤ n.val) :
    Ideal.fptosi 32 (Ideal.div (Ideal.log (Ideal.div ((n.val : ℝ) : EReal) ((16 : ℝ) : EReal))) (Ideal.log ((8 : ℝ) : EReal)) * ((16 : ℝ) : EReal))
      = BitVec.ofNat 32 (bucket n - 16) := by
  have h8 : 0 < Real.log 8 := Real.log_pos (by norm_num)
  obtain ⟨h1, h2⟩ := bucket_between n h
  have hb := bucket_lt n
  have hp : ¬ (n.val : ℝ) * (1 / 16) ≤ 0 := by
    have : 0 < n.val := by omega
    exact not_le.mpr (by positivity)
  rw [Ideal.div_coe (by norm_num), ← EReal.coe_mul, Ideal.log_coe, if_neg hp, Ideal.log_coe, if_neg (by norm_num),
    Ideal.div_coe h8.ne', ← EReal.coe_mul, ← EReal.coe_mul, Ideal.fptosi, Ideal.toIntClamped_coe, floor_log (by omega) h1 h2, if_pos]
  · generalize bucket n = w at hb
    rw [show max (-((2 ^ (32 - 1) : ℕ) : ℤ)) (min (((2 ^ (32 - 1) : ℕ) : ℤ) - 1) ((w - 16 : ℕ) : ℤ)) = ((w - 16 : ℕ) : ℤ) from by omega]
    exact BitVec.ofInt_natCast 32 _
  · have : (1 : ℝ) ≤ (n.val : ℝ) * (1 / 16) := by
      have : (16 : ℝ) ≤ (n.val : ℝ) := by exact_mod_cast h
      linarith
    have := Real.log_nonneg this
    positivity

end Cert.Att

end
-- ==== Proof.AttRefRows.lean ====
module

public import proofs.«01_k».proof.Proof.AttSpec
public import proofs.«01_k».proof.Proof.Gen.ReferenceIdeal.Read
public import Idealize.ShloMosaic.Lib.WordCmp

@[expose] public section

set_option maxRecDepth 16384

/-! The attention's reference: the rows of keys and values, the queries and the mask, read at an element. -/

noncomputable section
open Idealize.ShloMosaic Idealize.ShloMosaic.TcCoe Idealize.SL.Sem
namespace Cert.ReferenceIdeal.Att
open Cert.ReferenceIdeal Cert.ReferenceIdeal.Gen Cert.ReferenceIdeal.Read Cert.Att
variable (x0 : FVec Ideal S2x8192x1024 .bf16) (x1 : FVec Ideal S2x8192x512 .f32)

/-- The keys with 128 zero rows before them. -/
theorem pad_keys_at (n : Fin 2) (r : Fin 8320) (g : Fin 4) (d : Fin 64) : val_main_v9 (F := Ideal) x1 (ix4 n r g d)
    = if h : 128 ≤ r.val then x1 (ix3 n ⟨r.val - 128, by omega⟩ ⟨64 * g + d, by omega⟩) else 0 := by
  pointwise [val_main_v9, val_main_v8, val_main_cst, val_main_v4, val_main_v0]
  split
  · rw [dif_neg (by omega)]
  · rw [dif_pos (by omega)]
    refine congrArg x1 (congrArg (ix3 n _) (Fin.ext ?_))
    dsimp only
    omega

/-- The values with 128 zero rows before them. -/
theorem pad_vals_at (n : Fin 2) (r : Fin 8320) (g : Fin 4) (d : Fin 64) : val_main_v13 (F := Ideal) x1 (ix4 n r g d)
    = if h : 128 ≤ r.val then x1 (ix3 n ⟨r.val - 128, by omega⟩ ⟨256 + 64 * g + d, by omega⟩) else 0 := by
  pointwise [val_main_v13, val_main_v12, val_main_cst_0, val_main_v5, val_main_v1]
  split
  · rw [dif_neg (by omega)]
  · rw [dif_pos (by omega)]
    refine congrArg x1 (congrArg (ix3 n _) (Fin.ext ?_))
    dsimp only
    omega

/-- Padded rows cut into blocks of 128, at an element. -/
theorem cut_at (y : FVec Ideal S2x8320x4x64 .f32) (n : Fin 2) (j : Fin 65) (a : Fin 128) (g : Fin 4) (d : Fin 64) :
    shapeCast S2x65x128x4x64 y shapeCasts_S2x8320x4x64_S2x65x128x4x64 (ix5 n j a g d) = y (ix4 n ⟨j.val * 128 + a, by omega⟩ g d) := by
  refine shapeCast_apply y _ _ _ ?_
  rw [Shape.rowMajor_val_four, Shape.rowMajor_val_five]
  show ((n.val * 8320 + (j.val * 128 + a.val)) * 4 + g.val) * 64 + d.val = (((n.val * 65 + j.val) * 128 + a.val) * 4 + g.val) * 64 + d.val
  omega

/-- A block beside the next one. -/
theorem beside_at (y z : FVec Ideal S2x64x128x4x64 .f32) (n : Fin 2) (b : Fin 64) (a : Fin 256) (g : Fin 4) (d : Fin 64) :
    concatenate S2x64x256x4x64 2 [⟨S2x64x128x4x64, y⟩, ⟨S2x64x128x4x64, z⟩] concatenates_S2x64x128x4x64_S2x64x128x4x64_S2x64x256x4x64_d2 (ix5 n b a g d)
      = if h : a.val < 128 then y (ix5 n b ⟨a, h⟩ g d) else z (ix5 n b ⟨a.val - 128, by omega⟩ g d) := by
  pointwise []

/-- The blocks' first 64. -/
theorem first_at (y : FVec Ideal S2x65x128x4x64 .f32) (n : Fin 2) (b : Fin 64) (a : Fin 128) (g : Fin 4) (d : Fin 64) :
    extractStridedSlice S2x64x128x4x64 ![0, 0, 0, 0, 0] y slices_S2x65x128x4x64_S2x64x128x4x64_0_0_0_0_0 (ix5 n b a g d)
      = y (ix5 n ⟨b, by omega⟩ a g d) := by
  pointwise []

/-- The blocks' last 64. -/
theorem last_at (y : FVec Ideal S2x65x128x4x64 .f32) (n : Fin 2) (b : Fin 64) (a : Fin 128) (g : Fin 4) (d : Fin 64) :
    extractStridedSlice S2x64x128x4x64 ![0, 1, 0, 0, 0] y slices_S2x65x128x4x64_S2x64x128x4x64_0_1_0_0_0 (ix5 n b a g d)
      = y (ix5 n ⟨1 + b, by omega⟩ a g d) := by
  pointwise []

/-- Padded rows, each block of 128 with the next one beside it. -/
def paired (y : FVec Ideal S2x8320x4x64 .f32) : FVec Ideal S2x64x256x4x64 .f32 :=
  concatenate S2x64x256x4x64 2
    [⟨S2x64x128x4x64, extractStridedSlice S2x64x128x4x64 ![0, 0, 0, 0, 0]
        (shapeCast S2x65x128x4x64 y shapeCasts_S2x8320x4x64_S2x65x128x4x64) slices_S2x65x128x4x64_S2x64x128x4x64_0_0_0_0_0⟩,
      ⟨S2x64x128x4x64, extractStridedSlice S2x64x128x4x64 ![0, 1, 0, 0, 0]
        (shapeCast S2x65x128x4x64 y shapeCasts_S2x8320x4x64_S2x65x128x4x64) slices_S2x65x128x4x64_S2x64x128x4x64_0_1_0_0_0⟩]
    concatenates_S2x64x128x4x64_S2x64x128x4x64_S2x64x256x4x64_d2

/-- A pair of blocks at an element: row `128 b + a` of the padded rows. -/
theorem paired_at (y : FVec Ideal S2x8320x4x64 .f32) (n : Fin 2) (b : Fin 64) (a : Fin 256) (g : Fin 4) (d : Fin 64) :
    paired y (ix5 n b a g d) = y (ix4 n ⟨b.val * 128 + a, by omega⟩ g d) := by
  unfold paired
  rw [beside_at]
  split
  · rw [first_at, cut_at]
  · rw [last_at, cut_at]
    refine congrArg (fun r => y (ix4 n r g d)) (Fin.ext ?_)
    dsimp only
    omega

/-- The keys of block `b`, by the padded keys. -/
theorem keys_cell (n : Fin 2) (b : Fin 64) (a : Fin 256) (g : Fin 4) (d : Fin 64) : val_main_v17 (F := Ideal) x1 (ix5 n b a g d)
    = val_main_v9 (F := Ideal) x1 (ix4 n ⟨b.val * 128 + a, by omega⟩ g d) :=
  paired_at (val_main_v9 (F := Ideal) x1) n b a g d

/-- The values of block `b`, by the padded values. -/
theorem vals_cell (n : Fin 2) (b : Fin 64) (a : Fin 256) (g : Fin 4) (d : Fin 64) : val_main_v20 (F := Ideal) x1 (ix5 n b a g d)
    = val_main_v13 (F := Ideal) x1 (ix4 n ⟨b.val * 128 + a, by omega⟩ g d) :=
  paired_at (val_main_v13 (F := Ideal) x1) n b a g d

/-- The keys of block `b`. -/
theorem keys_at (n : Fin 2) (b : Fin 64) (a : Fin 256) (g : Fin 4) (d : Fin 64) : val_main_v17 (F := Ideal) x1 (ix5 n b a g d)
    = rowAt x1 n b a ⟨64 * g + d, by omega⟩ := by
  rw [keys_cell, pad_keys_at, rowAt]

/-- The values of block `b`. -/
theorem vals_at (n : Fin 2) (b : Fin 64) (a : Fin 256) (g : Fin 4) (d : Fin 64) : val_main_v20 (F := Ideal) x1 (ix5 n b a g d)
    = rowAt x1 n b a ⟨256 + 64 * g + d, by omega⟩ := by
  rw [vals_cell, pad_vals_at, rowAt]

/-- The queries of block `b`. -/
theorem queries_at (n : Fin 2) (b : Fin 64) (c : Fin 128) (g : Fin 4) (j : Fin 4) (d : Fin 64) :
    val_main_v6 (F := Ideal) x0 (ix6 n b c g j d) = x0 (ix3 n ⟨b.val * 128 + c, by omega⟩ ⟨64 * (4 * g + j) + d, by omega⟩) := by
  pointwise [val_main_v6, val_main_v3, val_main_v2]
  refine congrArg x0 (congrArg (ix3 n _) (Fin.ext ?_))
  dsimp only
  omega

/-- The distance from a key to a query. -/
theorem dist_at (c : Fin 128) (a : Fin 256) :
    val_main_v29 (F := Ideal) (ix2 c a) = IntOp.subi (IntOp.addi (BitVec.ofNat 32 c.val) 128#32) (BitVec.ofNat 32 a.val) := by
  pointwise [val_main_v29, val_main_v28, val_main_v27, val_main_v26, val_main_v25, val_main_c, val_main_v24, val_main_v23, val_main_v22, val_main_v21]

/-- The mask. -/
theorem mask_at (b : Fin 64) (c : Fin 128) (a : Fin 256) :
    val_main_v50 (F := Ideal) (ix3 b c a) = if seen b c a then 1#1 else 0#1 := by
  pointwise [val_main_v50, val_main_v49, val_main_v48, val_main_v47, val_main_v46, val_main_c_5, val_main_v45, val_main_v44, val_main_v43,
    val_main_v42, val_main_v41, val_main_v40, val_main_v39, val_main_c_4, val_main_v38, val_main_v37, val_main_c_3, val_main_v36,
    val_main_v35, val_main_v34, val_main_v33, val_main_v32, val_main_c_2, val_main_v31, val_main_v30, val_main_c_1, dist_at,
    val_main_v24, val_main_v23]
  word_cmp
  have hb := b.isLt
  have hc := c.isLt
  have ha := a.isLt
  have e1 : (IntOp.subi (IntOp.addi (BitVec.ofNat 32 c) 128#32) (BitVec.ofNat 32 a)).toNat = (c.val + 128 + (4294967296 - a.val)) % 4294967296 := by
    simp only [IntOp.subi, IntOp.addi, BitVec.toNat_sub, BitVec.toNat_add, BitVec.toNat_ofNat]
    omega
  have e2 : (IntOp.addi (IntOp.subi (IntOp.muli (BitVec.ofNat 32 b) 128#32) 128#32) (BitVec.ofNat 32 a)).toNat
      = (b.val * 128 + (4294967296 - 128) + a.val) % 4294967296 := by
    simp only [IntOp.subi, IntOp.addi, IntOp.muli, BitVec.toNat_sub, BitVec.toNat_add, BitVec.toNat_mul, BitVec.toNat_ofNat]
    omega
  rw [e1]
  generalize IntOp.addi (IntOp.subi (IntOp.muli (BitVec.ofNat 32 b) 128#32) 128#32) (BitVec.ofNat 32 a) = X at e2 ⊢
  have e3 : IntOp.cmpi .sge X 0#32 = BitVec.ofBool (decide (128 ≤ b.val * 128 + a)) := by
    have : X.toInt = (X.toNat : Int) - if X.toNat < 2147483648 then 0 else 4294967296 := by
      rw [BitVec.toInt_eq_toNat_cond]; split <;> split <;> omega
    simp only [IntOp.cmpi, BitVec.sle, this, e2]
    congr 1
    simp only [BitVec.toInt_zero, decide_eq_decide]
    split <;> omega
  rw [e3]
  by_cases h1 : (c.val + 128 + (4294967296 - a.val)) % 4294967296 < 128 <;> by_cases h2 : 128 ≤ b.val * 128 + a.val
  · rw [decide_eq_true h1, decide_eq_true h2, if_pos ⟨by omega, h2⟩]; rfl
  · rw [decide_eq_true h1, decide_eq_false h2, if_neg fun h => h2 h.2]; rfl
  · rw [decide_eq_false h1, decide_eq_true h2, if_neg fun h => h1 (by omega)]; rfl
  · rw [decide_eq_false h1, decide_eq_false h2, if_neg fun h => h2 h.2]; rfl
end Cert.ReferenceIdeal.Att
-- ==== Proof.AttRefBias.lean ====
module

public import proofs.«01_k».proof.Proof.AttBucket
public import proofs.«01_k».proof.Proof.AttRefRows
public import Idealize.ShloMosaic.Lib.ReduceAll

@[expose] public section

set_option maxRecDepth 16384

/-! The attention's reference: the bucket of a distance, and the relative bias read at an element. -/

noncomputable section
open Idealize.ShloMosaic Idealize.ShloMosaic.TcCoe Idealize.SL.Sem
namespace Cert.ReferenceIdeal.Att
open Cert.ReferenceIdeal Cert.ReferenceIdeal.Gen Cert.ReferenceIdeal.Read Cert.Att
variable (x2 : FVec Ideal S32x16 .f32)

/-- Distances below 128 as words: none is negative. -/
theorem word_pos : ∀ n : Fin 128, IntOp.maxsi (BitVec.ofNat 32 n) 0#32 = BitVec.ofNat 32 n := by decide +kernel
/-- Distances from 16 on are at least one. -/
theorem word_one : ∀ n : Fin 128, 16 ≤ n.val → IntOp.maxsi (BitVec.ofNat 32 n) 1#32 = BitVec.ofNat 32 n := by decide +kernel
/-- Which distances are below 16. -/
theorem word_small : ∀ n : Fin 128, IntOp.cmpi .slt (BitVec.ofNat 32 n) 16#32 = if n.val < 16 then 1#1 else 0#1 := by decide +kernel
/-- A distance's word as an integer. -/
theorem word_int : ∀ n : Fin 128, (BitVec.ofNat 32 n).toInt = n.val := by decide +kernel
/-- The bucket from its offset. -/
theorem word_bucket : ∀ n : Fin 128, 16 ≤ n.val →
    IntOp.minsi (IntOp.addi 16#32 (BitVec.ofNat 32 (bucket n - 16))) 31#32 = BitVec.ofNat 32 (bucket n) := by decide +kernel

/-- The reference's sixteen. -/
theorem word_sixteen : Ideal.ofBits FTy.f32 1098907648#32 = ((16 : ℝ) : EReal) := by
  simp [Ideal.ofBits, Ideal.ieee]
  norm_num
  rw [← EReal.coe_mul]
  norm_num

/-- The reference's eight. -/
theorem word_eight : Ideal.ofBits FTy.f32 1090519040#32 = ((8 : ℝ) : EReal) := by
  simp [Ideal.ofBits, Ideal.ieee]
  norm_num
  rw [← EReal.coe_mul]
  norm_num

/-- The bucket of a distance in the band. -/
theorem bucket_at (c : Fin 128) (a : Fin 256) (h : a.val ≤ c.val + 128) (h' : c.val < a.val) :
    val_main_v72 (F := Ideal) (ix2 c a) = BitVec.ofNat 32 (bucket (c.val + 128 - a.val)) := by
  have e : IntOp.subi (IntOp.addi (BitVec.ofNat 32 c.val) 128#32) (BitVec.ofNat 32 a.val) = BitVec.ofNat 32 (c.val + 128 - a.val) := by
    apply BitVec.eq_of_toNat_eq
    simp only [IntOp.subi, IntOp.addi, BitVec.toNat_sub, BitVec.toNat_add, BitVec.toNat_ofNat]
    omega
  obtain ⟨n, hn⟩ : ∃ n : Fin 128, n.val = c.val + 128 - a.val := ⟨⟨c.val + 128 - a.val, by omega⟩, rfl⟩
  pointwise [val_main_v72, val_main_v71, val_main_v70, val_main_c_13, val_main_v69, val_main_v68, val_main_c_12, val_main_v67,
    val_main_v66, val_main_c_11, val_main_v65, val_main_v64, val_main_v63, val_main_cst_10, val_main_v62, val_main_v61, val_main_v60,
    val_main_cst_9, val_main_v59, val_main_v58, val_main_v57, val_main_cst_8, val_main_v56, val_main_v55, val_main_v54, val_main_c_7,
    val_main_v53, val_main_v52, val_main_c_6, dist_at]
  rw [e, ← hn, word_pos, word_small]
  by_cases hs : n.val < 16
  · rw [if_pos hs]
    show BitVec.ofNat 32 n.val = _
    rw [bucket, if_pos hs]
  · rw [if_neg hs, word_one n (by omega), word_sixteen, word_eight]
    have ei : FloatOps.sitofp (F := Ideal) FTy.f32 (BitVec.ofNat 32 n.val) = (((n.val : ℝ)) : EReal) := by
      show (((BitVec.ofNat 32 n.val).toInt : ℝ) : EReal) = _
      rw [word_int]
      norm_num
    rw [ei]
    refine Eq.trans ?_ (word_bucket n (by omega))
    exact congrArg (fun w => IntOp.minsi (IntOp.addi 16#32 w) 31#32) (log_word n (by omega))

/-- The table's row at a start index, by the row. -/
theorem rows_gather (x : FVec Ideal S32x16 .f32) (idx : IVec S128x256x1 32) (c : Fin 128) (a : Fin 256) (h : Fin 16) :
    Host.gather gather_S32x16_S128x256x1_S128x256x16_2_0_n_n_0_2_116 x idx (ix3 c a h)
      = x (ix2 ⟨min (idx (ix3 c a 0)).toInt.toNat 31, by omega⟩ h) := by
  unfold Host.gather
  congr 1
  funext k
  refine Fin.ext ?_
  show gather_S32x16_S128x256x1_S128x256x16_2_0_n_n_0_2_116.start (ix3 c a h) idx k
    + gather_S32x16_S128x256x1_S128x256x16_2_0_n_n_0_2_116.batchCoord (ix3 c a h) k
    + gather_S32x16_S128x256x1_S128x256x16_2_0_n_n_0_2_116.offCoord (ix3 c a h) k = _
  rw [GatherDims.batchCoord_eq_zero _ _ _ List.not_mem_nil]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 c a h)
        ⟨List.idxOf (0 : Fin 2) gather_S32x16_S128x256x1_S128x256x16_2_0_n_n_0_2_116.startIndexMap,
          List.idxOf_lt_length_iff.2 (List.mem_singleton.mpr rfl)⟩ = ix3 c a 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ gather_S32x16_S128x256x1_S128x256x16_2_0_n_n_0_2_116.startIndexMap from by decide)]
    simp only [Nat.add_zero, Nat.zero_add]
    unfold GatherDims.offCoord
    rw [dif_pos (by decide)]
    rfl

/-- A table's row index as a word: it lies in the table, so it is taken as it is. -/
theorem word_row : ∀ w : Fin 32, Scalar.select (IntOp.cmpi .slt (BitVec.ofNat 32 w) 0#32) (IntOp.addi (BitVec.ofNat 32 w) 32#32) (BitVec.ofNat 32 w)
      = BitVec.ofNat 32 w
    ∧ IntOp.andi (IntOp.cmpi .sge (BitVec.ofNat 32 w) 0#32) (IntOp.cmpi .sle (BitVec.ofNat 32 w) 31#32) = 1#1
    ∧ min (BitVec.ofNat 32 w).toInt.toNat 31 = w.val := by decide +kernel

/-- The index, as the table's reader forms it. -/
theorem row_at (c : Fin 128) (a : Fin 256) (w : Fin 32) (h : val_main_v72 (F := Ideal) (ix2 c a) = BitVec.ofNat 32 w) :
    val_main_call1_v5 (F := Ideal) (ix3 c a 0) = BitVec.ofNat 32 w := by
  pointwise [val_main_call1_v5, val_main_call1_v4, val_main_call1_v3, val_main_call1_v2, val_main_call1_c_0, val_main_call1_v1,
    val_main_call1_v0, val_main_call1_c, h]
  exact (word_row w).1

/-- The index is in the table. -/
theorem inside_at (c : Fin 128) (a : Fin 256) (w : Fin 32) (h : val_main_v72 (F := Ideal) (ix2 c a) = BitVec.ofNat 32 w) :
    val_main_call1_v11 (F := Ideal) (ix3 c a 0) = 1#1 := by
  pointwise [val_main_call1_v11, val_main_call1_v10, val_main_call1_v9, val_main_call1_v8, val_main_call1_c_1, val_main_call1_v7,
    val_main_call1_v6, val_main_call1_c_2, row_at c a w h]
  exact (word_row w).2.1

instance : Std.Commutative (IntOp.andi (w := 1)) := ⟨fun a b => BitVec.and_comm a b⟩
instance : Std.Associative (IntOp.andi (w := 1)) := ⟨fun a b c => BitVec.and_assoc a b c⟩

/-- So the whole row of indices is. -/
theorem all_inside_at (c : Fin 128) (a : Fin 256) (w : Fin 32) (h : val_main_v72 (F := Ideal) (ix2 c a) = BitVec.ofNat 32 w) :
    val_main_call1_v12 (F := Ideal) (ix2 c a) = 1#1 := by
  unfold val_main_call1_v12
  rw [Host.reduce_eq_fold_single IntOp.andi _ _ reducesTo_S128x256x1_S128x256_d2 (by decide) h_S_]
  have e : ∀ k : Fin 1, (val_main_call1_v11 (F := Ideal) ∘ Shape.Reduces.lift (a := (2 : Fin 3)) (s := S128x256x1) (t := S128x256) (by decide) (ix2 c a)) k = 1#1 := by
    intro k
    refine Eq.trans (congrArg (val_main_call1_v11 (F := Ideal)) ?_) (inside_at c a w h)
    funext b
    refine Fin.ext ?_
    have := k.isLt
    match b with
    | ⟨0, _⟩ => rfl
    | ⟨1, _⟩ => rfl
    | ⟨2, _⟩ => show k.val = 0; omega
  refine (congrArg (Finset.fold IntOp.andi _ · Finset.univ) (funext e)).trans ?_
  decide

/-- The table's entry taken for a key and a query. -/
theorem taken_at (c : Fin 128) (a : Fin 256) (h : Fin 16) (w : Fin 32) (hw : val_main_v72 (F := Ideal) (ix2 c a) = BitVec.ofNat 32 w) :
    val_main_v73 (F := Ideal) x2 (ix3 c a h) = x2 (ix2 w h) := by
  have e : val_main_call1_v13 (F := Ideal) x2 (ix3 c a h) = x2 (ix2 w h) := by
    refine (rows_gather x2 _ c a h).trans (congrArg (fun r => x2 (ix2 r h)) (Fin.ext ?_))
    dsimp only
    rw [row_at c a w hw]
    exact (word_row w).2.2
  pointwise [val_main_v73, val_main_call1_v14, all_inside_at c a w hw, e]

/-- The relative bias of a head, in the band. -/
theorem bias_at (g u : Fin 4) (c : Fin 128) (a : Fin 256) (h : a.val ≤ c.val + 128) (h' : c.val < a.val) :
    val_main_v75 (F := Ideal) x2 (ix4 g u c a) = x2 (ix2 ⟨bucket (c.val + 128 - a.val), bucket_lt _⟩ ⟨4 * g.val + u.val, by omega⟩) := by
  rw [← taken_at x2 c a ⟨4 * g.val + u.val, by omega⟩ ⟨bucket (c.val + 128 - a.val), bucket_lt _⟩ (bucket_at c a h h')]
  unfold val_main_v75
  refine (shapeCast_apply _ _ _ (ix3 ⟨4 * g.val + u.val, by omega⟩ c a) ?_).trans ?_
  · rw [Shape.rowMajor_val_three, Shape.rowMajor_val_four]
    show ((4 * g.val + u.val) * 128 + c.val) * 256 + a.val = ((g.val * 4 + u.val) * 128 + c.val) * 256 + a.val
    omega
  · pointwise [val_main_v74]

end Cert.ReferenceIdeal.Att
-- ==== Proof.AttDen.lean ====
module

public import proofs.«01_k».proof.Proof.AttSpec

@[expose] public section

/-! The softmax's denominator is not zero where the logits are below infinity and the sink is finite; so a division by it is a
product with its reciprocal. -/

noncomputable section
open Idealize.ShloMosaic Idealize.ShloMosaic.TcCoe Idealize.SL.Sem
namespace Cert.Att

/-- An exponential is not negative. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- An exponential is positive but at minus infinity. -/
theorem exp_pos (x : EReal) (h : x ≠ ⊥) : 0 < Ideal.exp x := by
  induction x using EReal.rec with
  | bot => exact absurd rfl h
  | coe r => rw [Ideal.exp_coe]; exact_mod_cast Real.exp_pos r
  | top => rw [Ideal.exp_top]; exact EReal.zero_lt_top

/-- The peak of logits below infinity is below infinity. -/
theorem peak_lt (s : Fin 256 → EReal) (k : EReal) (hs : ∀ a, s a ≠ ⊤) (hk : k ≠ ⊤) : peak s k ≠ ⊤ := by
  refine (max_lt ?_ (lt_top_iff_ne_top.2 hk)).ne
  rw [Finset.fold_max_lt]
  exact ⟨bot_lt_top, fun a _ => lt_top_iff_ne_top.2 (hs a)⟩

/-- The denominator is positive. -/
theorem den_pos (s : Fin 256 → EReal) (k : EReal) (hs : ∀ a, s a ≠ ⊤) (hk : k ≠ ⊤) (hk' : k ≠ ⊥) : 0 < den s k := by
  have h1 : 0 < Ideal.exp (k - peak s k) := by
    refine exp_pos _ fun h => ?_
    rw [sub_eq_add_neg, EReal.add_eq_bot_iff] at h
    rcases h with h | h
    · exact hk' h
    · exact peak_lt s k hs hk (EReal.neg_eq_bot_iff.1 h)
  have h0 : 0 ≤ ∑ a, Ideal.exp (s a - peak s k) := Finset.sum_nonneg fun a _ => exp_nonneg _
  exact lt_of_lt_of_le h1 (le_add_of_nonneg_left h0)

/-- A quotient by the denominator is a key's weight. -/
theorem weight_eq (s : Fin 256 → EReal) (k : EReal) (a : Fin 256) (hs : ∀ a, s a ≠ ⊤) (hk : k ≠ ⊤) (hk' : k ≠ ⊥) :
    Ideal.div (Ideal.exp (s a - peak s k)) (den s k) = weight s k a := by
  have h := (den_pos s k hs hk hk').ne'
  unfold weight Ideal.div
  rw [if_neg h, if_neg h, one_mul]

/-- A product of finite numbers is finite. -/
theorem mul_fin {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A sum of finite numbers is finite. -/
theorem add_fin {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- So is a sum of many. -/
theorem sum_fin {n : ℕ} (f : Fin n → EReal) (hf : ∀ d, f d ≠ ⊤ ∧ f d ≠ ⊥) : ∑ d, f d ≠ ⊤ ∧ ∑ d, f d ≠ ⊥ := by
  refine Finset.sum_induction f (fun x => x ≠ ⊤ ∧ x ≠ ⊥) (fun _ _ => add_fin) ⟨EReal.zero_ne_top, EReal.zero_ne_bot⟩ fun d _ => hf d

variable (q : (⟨3, ![2, 8192, 1024]⟩ : Shape).Idx → EReal) (kv : (⟨3, ![2, 8192, 512]⟩ : Shape).Idx → EReal)
  (rb : (⟨2, ![32, 16]⟩ : Shape).Idx → EReal)

/-- Finite queries, keys and biases have logits below infinity. -/
theorem logit_lt (hq : ∀ i, q i ≠ ⊤ ∧ q i ≠ ⊥) (hkv : ∀ n s (e : Fin 512), e.val < 256 → kv (ix3 n s e) ≠ ⊤ ∧ kv (ix3 n s e) ≠ ⊥)
    (hrb : ∀ i, rb i ≠ ⊤ ∧ rb i ≠ ⊥) (n : Fin 2) (b : Fin 64) (c : Fin 128) (h : Fin 16) (a : Fin 256) : logit q kv rb n b c h a ≠ ⊤ := by
  unfold logit
  split
  · refine (add_fin (sum_fin _ fun d => mul_fin ?_ (hq _)) (hrb _)).1
    unfold rowAt
    split
    · exact hkv _ _ _ (by dsimp only; omega)
    · exact ⟨EReal.zero_ne_top, EReal.zero_ne_bot⟩
  · exact bot_ne_top

end Cert.Att

end
-- ==== Proof.AttRef.lean ====
module

public import proofs.«01_k».proof.Proof.AttRefBias
public import proofs.«01_k».proof.Proof.AttDen

@[expose] public section

set_option maxRecDepth 16384

/-! The attention's reference: its result array in plain terms. -/

noncomputable section
open Idealize.ShloMosaic Idealize.ShloMosaic.TcCoe Idealize.SL.Sem
namespace Cert.ReferenceIdeal.Att
open Cert.ReferenceIdeal Cert.ReferenceIdeal.Gen Cert.ReferenceIdeal.Read Cert.Att
variable (x0 : FVec Ideal S2x8192x1024 .bf16) (x1 : FVec Ideal S2x8192x512 .f32) (x2 : FVec Ideal S32x16 .f32) (x3 : FVec Ideal S16 .f32)

/-- The reference's mask is minus infinity. -/
theorem mask_word : Ideal.ofBits FTy.f32 0xFF800000#32 = ⊥ := by simp [Ideal.ofBits, Ideal.ieee]

/-- The head of a group and a place in it. -/
abbrev head (g u : Fin 4) : Fin 16 := ⟨4 * g.val + u.val, by omega⟩

/-- Queries times keys. -/
theorem dots_at (n : Fin 2) (b : Fin 64) (g u : Fin 4) (c : Fin 128) (a : Fin 256) :
    val_main_v77 (F := Ideal) x0 x1 (ix6 n b g u c a)
      = ∑ d : Fin 64, rowAt x1 n b a ⟨64 * g.val + d.val, by omega⟩ * x0 (ix3 n ⟨b.val * 128 + c.val, by omega⟩ ⟨64 * (4 * g.val + u.val) + d.val, by omega⟩) := by
  rw [val_main_v77_apply, val_main_v76_apply]
  refine Finset.sum_congr rfl fun d _ => ?_
  have e1 : lidx_main_v76 (idx_main_v77 (ix6 n b g u c a)) d = ix5 n b a g d := eq_ix5 _
  have e2 : ridx_main_v76 (idx_main_v77 (ix6 n b g u c a)) d = ix6 n b c g u d := eq_ix6 _
  rw [e1, e2, keys_at, queries_at]

/-- The logits. -/
theorem logits_at (n : Fin 2) (b : Fin 64) (g u : Fin 4) (c : Fin 128) (a : Fin 256) :
    val_main_v81 (F := Ideal) x0 x1 x2 (ix6 n b g u c a) = logit x0 x1 x2 n b c (head g u) a := by
  have em : val_main_call2_v1 (F := Ideal) (ix6 n b g u c a) = if seen b c a then 1#1 else 0#1 := by
    rw [val_main_call2_v1_apply, val_main_v51_apply]
    exact (congrArg (val_main_v50 (F := Ideal)) (eq_ix3 _)).trans (mask_at b c a)
  have eb : val_main_v79 (F := Ideal) x2 (ix6 n b g u c a) = val_main_v75 (F := Ideal) x2 (ix4 g u c a) := by
    rw [val_main_v79_apply, val_main_v78_apply]
    exact congrArg (val_main_v75 (F := Ideal) x2) (eq_ix4 _)
  rw [val_main_v81_apply, val_main_v80_apply, val_main_call2_v2_apply, val_main_call2_v0_apply, val_main_cst_14_apply, em, eb,
    Ideal.ofBits_def, mask_word, dots_at]
  unfold logit
  by_cases s : seen b c a
  · rw [if_pos s, if_pos s, bias_at x2 g u c a s.1.1 s.1.2]
    show _ + _ = _ + _
    refine congrArg (· + _) (Finset.sum_congr rfl fun d _ => ?_)
    refine congrArg (rowAt x1 n b a · * _) (Fin.ext ?_)
    show 64 * g.val + d.val = 64 * ((4 * g.val + u.val) / 4) + d.val
    omega
  · rw [if_neg s, if_neg s]
    rfl

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The greatest logit of a query. -/
theorem greatest_at (n : Fin 2) (b : Fin 64) (g u : Fin 4) (c : Fin 128) :
    val_main_v83 (F := Ideal) x0 x1 x2 (ix5 n b g u c) = Finset.univ.fold max ⊥ (logit x0 x1 x2 n b c (head g u)) := by
  unfold val_main_v83
  rw [Host.reduce_eq_fold_single FloatOps.maximumf _ _ reducesTo_S2x64x4x4x128x256_S2x64x4x4x128_d5 (by decide) h_S_]
  refine (congrArg₂ (fun z f => Finset.fold (FloatOps.maximumf (F := Ideal) (φ := .f32)) z f Finset.univ)
    (show _ = (⊥ : EReal) from mask_word) (funext fun k => ?_)).trans rfl
  refine Eq.trans (congrArg (val_main_v81 (F := Ideal) x0 x1 x2) ?_) (logits_at x0 x1 x2 n b g u c k)
  funext j
  refine Fin.ext ?_
  match j with
  | ⟨0, _⟩ => rfl
  | ⟨1, _⟩ => rfl
  | ⟨2, _⟩ => rfl
  | ⟨3, _⟩ => rfl
  | ⟨4, _⟩ => rfl
  | ⟨5, _⟩ => rfl

/-- A head's sink, by group and place. -/
theorem sink_at (g u : Fin 4) (i j : Fin 1) : val_main_v82 (F := Ideal) x3 (ix4 g u i j) = x3 (ix1 (head g u)) := by
  unfold val_main_v82
  refine shapeCast_apply _ _ _ _ ?_
  rw [Shape.rowMajor_val_one, Shape.rowMajor_val_four]
  have := i.isLt
  have := j.isLt
  show 4 * g.val + u.val = ((g.val * 4 + u.val) * 1 + i.val) * 1 + j.val
  omega

/-- The peak of a query: its greatest logit or the sink. -/
theorem peak_at (n : Fin 2) (b : Fin 64) (g u : Fin 4) (c : Fin 128) (j : Fin 1) :
    val_main_v87 (F := Ideal) x0 x1 x2 x3 (ix6 n b g u c j) = peak (logit x0 x1 x2 n b c (head g u)) (x3 (ix1 (head g u))) := by
  rw [val_main_v87_apply, val_main_v84_apply, val_main_v86_apply, val_main_v85_apply]
  exact congrArg₂ max ((congrArg (val_main_v83 (F := Ideal) x0 x1 x2) (eq_ix5 _)).trans (greatest_at x0 x1 x2 n b g u c))
    ((congrArg (val_main_v82 (F := Ideal) x3) (eq_ix4 _)).trans (sink_at x3 g u _ _))

/-- A key's exponential. -/
theorem part_at (n : Fin 2) (b : Fin 64) (g u : Fin 4) (c : Fin 128) (a : Fin 256) :
    val_main_v90 (F := Ideal) x0 x1 x2 x3 (ix6 n b g u c a)
      = Ideal.exp (logit x0 x1 x2 n b c (head g u) a - peak (logit x0 x1 x2 n b c (head g u)) (x3 (ix1 (head g u)))) := by
  rw [val_main_v90_apply, val_main_v89_apply, val_main_v88_apply, logits_at, Ideal.hostUnary_exp_def]
  have e : idx_main_v88 (ix6 n b g u c a) = ix6 n b g u c 0 := eq_ix6 _
  rw [e, peak_at]
  rfl

/-- The denominator of a query. -/
theorem den_at (n : Fin 2) (b : Fin 64) (g u : Fin 4) (c : Fin 128) (j : Fin 1) :
    val_main_v97 (F := Ideal) x0 x1 x2 x3 (ix6 n b g u c j) = den (logit x0 x1 x2 n b c (head g u)) (x3 (ix1 (head g u))) := by
  rw [val_main_v97_apply, val_main_v96_apply, val_main_v95_apply, peak_at, val_main_v94_apply, val_main_v93_apply,
    val_main_v92_apply, val_main_v91_apply, val_main_cst_16_apply, Ideal.hostUnary_exp_def, Ideal.ofBits_def, Ideal.ofBits_zero_f32, zero_add]
  have e1 : idx_main_v93 (idx_main_v94 (ix6 n b g u c j)) = ix4 g u 0 0 := eq_ix4 _
  have e2 : ∀ a, idx_main_v91 (idx_main_v92 (ix6 n b g u c j)) a = ix6 n b g u c a := fun a => eq_ix6 _
  rw [e1, sink_at]
  refine congrArg (fun z : EReal => z + _) (Finset.sum_congr rfl fun a _ => ?_)
  rw [e2, part_at]

/-- The finiteness that the softmax needs of its arguments. -/
structure Finite : Prop where
  q : ∀ i, x0 i ≠ ⊤ ∧ x0 i ≠ ⊥
  kv : ∀ n s (e : Fin 512), e.val < 256 → x1 (ix3 n s e) ≠ ⊤ ∧ x1 (ix3 n s e) ≠ ⊥
  rb : ∀ i, x2 i ≠ ⊤ ∧ x2 i ≠ ⊥
  sk : ∀ i, x3 i ≠ ⊤ ∧ x3 i ≠ ⊥

variable {x0 x1 x2 x3} in
/-- A key's weight. -/
theorem weight_at (hf : Finite x0 x1 x2 x3) (n : Fin 2) (b : Fin 64) (g u : Fin 4) (c : Fin 128) (a : Fin 256) :
    val_main_v99 (F := Ideal) x0 x1 x2 x3 (ix6 n b g u c a)
      = weight (logit x0 x1 x2 n b c (head g u)) (x3 (ix1 (head g u))) a := by
  have e : val_main_v97 (F := Ideal) x0 x1 x2 x3 (idx_main_v98 (ix6 n b g u c a)) = den (logit x0 x1 x2 n b c (head g u)) (x3 (ix1 (head g u))) :=
    (congrArg (val_main_v97 (F := Ideal) x0 x1 x2 x3) (eq_ix6 _)).trans (den_at x0 x1 x2 x3 n b g u c _)
  rw [val_main_v99_apply, val_main_v98_apply, part_at, e]
  exact weight_eq _ _ a (logit_lt x0 x1 x2 hf.q hf.kv hf.rb n b c _) (hf.sk _).1 (hf.sk _).2

variable {x0 x1 x2 x3} in
/-- A query's weighted values. -/
theorem attend_at (hf : Finite x0 x1 x2 x3) (n : Fin 2) (b : Fin 64) (c : Fin 128) (g u : Fin 4) (d : Fin 64) :
    val_main_v101 (F := Ideal) x0 x1 x2 x3 (ix6 n b c g u d)
      = attend (logit x0 x1 x2 n b c (head g u)) (x3 (ix1 (head g u))) (fun a => rowAt x1 n b a ⟨256 + 64 * g.val + d.val, by omega⟩) := by
  rw [val_main_v101_apply, val_main_v100_apply]
  refine Finset.sum_congr rfl fun a _ => ?_
  have e1 : lidx_main_v100 (idx_main_v101 (ix6 n b c g u d)) a = ix5 n b a g d := eq_ix5 _
  have e2 : ridx_main_v100 (idx_main_v101 (ix6 n b c g u d)) a = ix6 n b g u c a := eq_ix6 _
  rw [e1, e2, vals_at, weight_at hf]

variable {x0 x1 x2 x3} in
/-- The reference's result. -/
theorem result_at (hf : Finite x0 x1 x2 x3) (n : Fin 2) (s : Fin 8192) (D : Fin 1024) :
    val_main_v103 (F := Ideal) x0 x1 x2 x3 (ix3 n s D) = resultAt x0 x1 x2 x3 n s D := by
  have e : val_main_v103 (F := Ideal) x0 x1 x2 x3 (ix3 n s D) = val_main_v102 (F := Ideal) x0 x1 x2 x3 (ix3 n s D) := rfl
  rw [e]
  unfold val_main_v102
  refine (shapeCast_apply _ _ _ (ix6 n ⟨s.val / 128, by omega⟩ ⟨s.val % 128, by omega⟩ ⟨D.val / 256, by omega⟩
    ⟨D.val / 64 % 4, by omega⟩ ⟨D.val % 64, by omega⟩) ?_).trans ?_
  · rw [Shape.rowMajor_val_three, Shape.rowMajor_val_six]
    show ((((n.val * 64 + s.val / 128) * 128 + s.val % 128) * 4 + D.val / 256) * 4 + D.val / 64 % 4) * 64 + D.val % 64
      = (n.val * 8192 + s.val) * 1024 + D.val
    omega
  · rw [attend_at hf]
    unfold resultAt
    have eh : head ⟨D.val / 256, by omega⟩ ⟨D.val / 64 % 4, by omega⟩ = (⟨D.val / 64, by omega⟩ : Fin 16) := Fin.ext (by dsimp only; omega)
    rw [eh]

end Cert.ReferenceIdeal.Att

end
-- ==== Proof.AttPre.lean ====
module

public import proofs.«01_k».proof.Pre_finite_logits
public import Idealize.ShloMosaic.Lib.ReduceAll
public import Idealize.ShloMosaic.Lib.Affine
public import Idealize.ShloMosaic.Lib.ValueIdx
public import Idealize.ShloMosaic.Lib.Pointwise

@[expose] public section

/-! What the attention's precondition says: the queries, the keys, the bias table and the sinks are finite. -/

noncomputable section
open Idealize.ShloMosaic Idealize.ShloMosaic.TcCoe
namespace Cert.Pre_finite_logits.Att
open Cert.Pre_finite_logits
variable [Facts]

/-- The word the absolute values are compared with is infinity. -/
theorem top_word : Ideal.ofBits FTy.f32 0x7F800000#32 = ⊤ := by simp [Ideal.ofBits, Ideal.ieee]

/-- A number with an absolute value below infinity is finite. -/
theorem finite_of (x : EReal) (h : Ideal.cmp .olt (max x (-x)) (Ideal.ofBits FTy.f32 0x7F800000#32) = 1#1) : x ≠ ⊤ ∧ x ≠ ⊥ := by
  rw [top_word] at h
  constructor
  · rintro rfl
    simp [Ideal.cmp] at h
  · rintro rfl
    simp [Ideal.cmp] at h

instance : Subsingleton S_.Idx := ⟨fun a b => funext fun k => k.elim0⟩

/-- The precondition's parts. -/
theorem parts (x0 : FVec Ideal S2x8192x1024 .bf16) (x1 : FVec Ideal S2x8192x512 .f32) (x2 : FVec Ideal S32x16 .f32) (x3 : FVec Ideal S16 .f32)
    (h : fn (F := Ideal) x0 x1 x2 x3 = fun _ => 1#1) :
    (∀ i, x0 i ≠ ⊤ ∧ x0 i ≠ ⊥)
    ∧ (∀ n s (e : Fin 512), e.val < 256 → x1 (ix3 n s e) ≠ ⊤ ∧ x1 (ix3 n s e) ≠ ⊥)
    ∧ (∀ i, x2 i ≠ ⊤ ∧ x2 i ≠ ⊥) ∧ ∀ i, x3 i ≠ ⊤ ∧ x3 i ≠ ⊥ := by
  have h0 := congrFun h (Shape.Idx.first Facts.h_S_)
  unfold fn fn_part1 at h0
  obtain ⟨h1, hd⟩ := IntOp.andi_eq_one.1 h0
  obtain ⟨h2, hc⟩ := IntOp.andi_eq_one.1 h1
  obtain ⟨ha, hb⟩ := IntOp.andi_eq_one.1 h2
  refine ⟨fun i => finite_of _ (Host.reduce_andi_all _ _ _ _ _ ha i), fun n s e he => ?_,
    fun i => finite_of _ (Host.reduce_andi_all _ _ _ _ _ hc i), fun i => finite_of _ (Host.reduce_andi_all _ _ _ _ _ hd i)⟩
  have hk := finite_of _ (Host.reduce_andi_all _ _ _ _ _ hb (ix3 n s ⟨e.val, he⟩))
  have e' : extractStridedSlice S2x8192x256 ![0, 0, 0] x1 Facts.slices_S2x8192x512_S2x8192x256_0_0_0 (ix3 n s ⟨e.val, he⟩) = x1 (ix3 n s e) := by
    refine congrArg x1 (funext fun k => Fin.ext ?_)
    match k with
    | ⟨0, _⟩ => exact Nat.zero_add _
    | ⟨1, _⟩ => exact Nat.zero_add _
    | ⟨2, _⟩ => exact Nat.zero_add _
  rw [← e']
  exact hk

end Cert.Pre_finite_logits.Att

end
-- ==== Proof.AttClaim.lean ====
module

public import proofs.«01_k».proof.Defs
public import proofs.«01_k».proof.Proof.Gen.KernelIdeal.Value
public import proofs.«01_k».proof.Proof.Gen.Pre_finite_logits
public import proofs.«01_k».proof.Proof.AttFrame
public import proofs.«01_k».proof.Proof.AttFinal
public import proofs.«01_k».proof.Proof.AttRef
public import proofs.«01_k».proof.Proof.AttPre
public import Idealize.ShloMosaic.Lib.Claim

@[expose] public section

set_option maxRecDepth 16384

/-! The attention call: under its precondition the reference's array is the kernel's. -/

noncomputable section
open Idealize.ShloMosaic Idealize.ShloMosaic.TcCoe Idealize.SL.Sem

namespace Cert.Proof.Att

theorem frame_pi_pre : Cert.quiescent_KernelIdeal_pre_finite_logits := fun m ρ _ => Cert.KernelIdeal.Gen.frame m ρ
theorem frame_ri_pre : Cert.quiescent_ReferenceIdeal_pre_finite_logits := fun m ρ _ => frame_ri m ρ trivial

/-- The reference's result is the kernel's result array, element by element, on finite arguments. -/
theorem ref_eq (x0 : FVec Ideal Cert.KernelIdeal.S2x8192x1024 .bf16) (x1 : FVec Ideal Cert.KernelIdeal.S2x8192x512 .f32)
    (x2 : FVec Ideal Cert.KernelIdeal.S32x16 .f32) (x3 : FVec Ideal Cert.KernelIdeal.S16 .f32)
    (hf : Cert.ReferenceIdeal.Att.Finite x0 x1 x2 x3) (i : Cert.KernelIdeal.S2x8192x1024.Idx) :
    Cert.ReferenceIdeal.Read.val_main_v103 (F := Ideal) x0 x1 x2 x3 i = Cert.Att.resultAt x0 x1 x2 x3 (i 0) (i 1) (i 2) := by
  obtain ⟨n, s, l, rfl⟩ : ∃ (n : Fin 2) (s : Fin 8192) (l : Fin 1024), i = ix3 n s l := ⟨i 0, i 1, i 2, eq_ix3 i⟩
  exact Cert.ReferenceIdeal.Att.result_at hf n s l

/-- Kernel and reference end with equal results over the extended reals, under the precondition. -/
theorem algebraic : Cert.algebraic_KernelIdeal_ReferenceIdeal_pre_finite_logits := by
  intro m ρ m' ρ' hpre hagree
  refine ⟨fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (Cert.KernelIdeal.Att.final m c).symm
  rw [Cert.ReferenceIdeal.Read.val_main_v103_eq]
  obtain ⟨h0, h1, h2, h3⟩ := hagree c
  refine (congr (congr (congr (congrArg (Cert.ReferenceIdeal.Read.val_main_v103 (F := Ideal)) h0) h1) h2) h3).trans ?_
  obtain ⟨f0, f1, f2, f3⟩ := Cert.Pre_finite_logits.Att.parts _ _ _ _ (hpre c)
  funext i
  exact ref_eq _ _ _ _ ⟨f0, f1, f2, f3⟩ i

end Cert.Proof.Att
-- ==== Proof.FfnMath.lean ====
module

public import Idealize.ShloMosaic.Lib.Pointwise

@[expose] public section

/-! The feed-forward call: the arithmetic of one row, shared by the kernel's side and the reference's. -/

noncomputable section
open Idealize.ShloMosaic
namespace Cert.Ffn

/-- The mean of a row of 2048 numbers. -/
def mean (z : Fin 2048 → EReal) : EReal := Ideal.div (∑ k, z k) (Ideal.ofBits .f32 0x45000000#32)

/-- Layer norm of the row `z`, with gain `g` and bias `b`, at lane `l`. -/
def lnorm (z g b : Fin 2048 → EReal) (l : Fin 2048) : EReal :=
  (z l - mean z) * Ideal.rsqrt (mean (fun k => (z k - mean z) * (z k - mean z)) + Ideal.ofBits .f32 0x3727C5AC#32)
    * g l + b l

/-- One hidden unit: the square of the positive part of the row `h` against the column `w`. -/
def hunit (h w : Fin 2048 → EReal) : EReal := max (∑ d, h d * w d) 0 * max (∑ d, h d * w d) 0

/-- The residual row before the norm: the scaled residual plus the gated feed-forward sum. -/
def resid (x g2 ff : Fin 2048 → EReal) (l : Fin 2048) : EReal :=
  Ideal.ofBits .f32 0x3F9837F0#32 * x l + g2 l * ff l

/-- What a sum over the hidden axis gives row `h` at one lane: every hidden unit times its weight. -/
def hiddenSum {n : Nat} (h : Fin 2048 → EReal) (wu : Fin 2048 → Fin n → EReal) (wd : Fin n → EReal) : EReal :=
  ∑ k : Fin n, hunit h (fun d => wu d k) * wd k

/-- What hidden step `s` (512 of the 8192 units) gives row `h` at one lane, zero past the last step. -/
def stage (h : Fin 2048 → EReal) (wu : Fin 2048 → Fin 8192 → EReal) (wd : Fin 8192 → EReal) (s : ℕ) : EReal :=
  if hs : s < 16 then hiddenSum (n := 512) h (fun d k => wu d ⟨s * 512 + k, by omega⟩) (fun k => wd ⟨s * 512 + k, by omega⟩) else 0

/-- The steps together are the sum over all 8192 hidden units. -/
theorem stages_eq (h : Fin 2048 → EReal) (wu : Fin 2048 → Fin 8192 → EReal) (wd : Fin 8192 → EReal) :
    ∑ s ∈ Finset.range 16, stage h wu wd s = hiddenSum h wu wd := by
  rw [Finset.sum_range]
  unfold stage hiddenSum
  simp only [Fin.is_lt, ↓reduceDIte]
  exact (Fin.sum_univ_tiles 16 512 rfl fun k : Fin 8192 => hunit h (fun d => wu d k) * wd k).symm

/-- The result of one row: the norm of its residual and feed-forward sum. -/
def row (h x g2 : Fin 2048 → EReal) (wu : Fin 2048 → Fin 8192 → EReal) (wd : Fin 8192 → Fin 2048 → EReal)
    (g b : Fin 2048 → EReal) (l : Fin 2048) : EReal :=
  lnorm (resid x g2 (fun k => hiddenSum h wu (fun u => wd u k))) g b l

end Cert.Ffn
-- ==== Proof.FfnBlock.lean ====
module

public import proofs.«01_k».proof.Proof.Gen.Kernel2Ideal.Skeleton
public import proofs.«01_k».proof.Proof.FfnMath
public import Idealize.ShloMosaic.Lib.Pointwise

@[expose] public section

set_option maxRecDepth 16384

/-! The feed-forward call: what one grid point computes, read at an element over the extended reals. -/

noncomputable section
open Idealize.ShloMosaic Idealize.ShloMosaic.TcCoe Idealize.SL.Sem
namespace Cert.Kernel2Ideal.Ffn
open Cert.Kernel2Ideal Cert.Kernel2Ideal.Gen Cert.Ffn

/-- What 512 hidden units add to row `r` of the block at lane `l`. -/
def part (h : FVec Ideal S1024x2048 .bf16) (wu : FVec Ideal S2048x512 .bf16) (wd : FVec Ideal S512x2048 .bf16)
    (r : Fin 1024) (l : Fin 2048) : EReal :=
  hiddenSum (n := 512) (fun d => h (ix2 r d)) (fun d k => wu (ix2 d k)) (fun k => wd (ix2 k l))

/-- The first step of the hidden axis stores its part. -/
theorem pay1_at (h : FVec Ideal S1024x2048 .bf16) (wu : FVec Ideal S2048x512 .bf16) (wd : FVec Ideal S512x2048 .bf16)
    (a : Fin 1) (r : Fin 1024) (l : Fin 2048) : k0_pay1 (F := Ideal) h wu wd (ix3 a r l) = part h wu wd r l := by
  pointwise [k0_pay1, part, hiddenSum, hunit]

/-- A later step adds its part to what the block holds. -/
theorem pay2_at (o : FVec Ideal S1x1024x2048 .f32) (h : FVec Ideal S1024x2048 .bf16) (wu : FVec Ideal S2048x512 .bf16)
    (wd : FVec Ideal S512x2048 .bf16) (a : Fin 1) (r : Fin 1024) (l : Fin 2048) :
    k0_pay2 (F := Ideal) o h wu wd (ix3 a r l) = o (ix3 a r l) + part h wu wd r l := by
  pointwise [k0_pay2, part, hiddenSum, hunit]

/-- The last step: the norm of the residual row `r` of the block, from what the steps before it left in `o`. -/
def last (o x : FVec Ideal S1x1024x2048 .f32) (g2 : FVec Ideal S1x1x2048 .f32) (h : FVec Ideal S1024x2048 .bf16)
    (wu : FVec Ideal S2048x512 .bf16) (wd : FVec Ideal S512x2048 .bf16) (lg lb : FVec Ideal S1x2048 .f32)
    (r : Fin 1024) (l : Fin 2048) : EReal :=
  lnorm (resid (fun k => x (ix3 0 r k)) (fun k => g2 (ix3 0 0 k)) (fun k => o (ix3 0 r k) + part h wu wd r k))
    (fun k => lg (ix2 0 k)) (fun k => lb (ix2 0 k)) l

section pieces
variable (o x : FVec Ideal S1x1024x2048 .f32) (g2 : FVec Ideal S1x1x2048 .f32) (h : FVec Ideal S1024x2048 .bf16)
    (wu : FVec Ideal S2048x512 .bf16) (wd : FVec Ideal S512x2048 .bf16) (lg lb : FVec Ideal S1x2048 .f32)
    (oc xc : FVec Ideal S1x256x2048 .f32) (a : Fin 1) (r : Fin 256) (l : Fin 2048)

/-- Rows 0 to 255 of the last step's block. -/
theorem piece0_at (ho : ∀ k, oc (ix3 0 r k) = o (ix3 0 ⟨r, by omega⟩ k)) (hx : ∀ k, xc (ix3 0 r k) = x (ix3 0 ⟨r, by omega⟩ k)) :
    k0_pay7 (F := Ideal) (k0_pay5 h wu oc wd xc g2) (k0_pay6 h wu oc wd xc g2) lg lb (ix3 a r l)
      = last o x g2 h wu wd lg lb ⟨r, by omega⟩ l := by
  obtain rfl : a = 0 := Subsingleton.elim _ _
  pointwise [k0_pay7, k0_pay6, k0_pay5, k0_pay4, last, lnorm, resid, mean, part, hiddenSum, hunit, ho, hx]

/-- Rows 256 to 511. -/
theorem piece1_at (ho : ∀ k, oc (ix3 0 r k) = o (ix3 0 ⟨256 + r, by omega⟩ k)) (hx : ∀ k, xc (ix3 0 r k) = x (ix3 0 ⟨256 + r, by omega⟩ k)) :
    k0_pay10 (F := Ideal) (k0_pay8 (k0_pay4 h wu) oc wd xc g2) (k0_pay9 (k0_pay4 h wu) oc wd xc g2) lg lb (ix3 a r l)
      = last o x g2 h wu wd lg lb ⟨256 + r, by omega⟩ l := by
  obtain rfl : a = 0 := Subsingleton.elim _ _
  pointwise [k0_pay10, k0_pay9, k0_pay8, k0_pay4, last, lnorm, resid, mean, part, hiddenSum, hunit, ho, hx]

/-- Rows 512 to 767. -/
theorem piece2_at (ho : ∀ k, oc (ix3 0 r k) = o (ix3 0 ⟨512 + r, by omega⟩ k)) (hx : ∀ k, xc (ix3 0 r k) = x (ix3 0 ⟨512 + r, by omega⟩ k)) :
    k0_pay13 (F := Ideal) (k0_pay11 (k0_pay4 h wu) oc wd xc g2) (k0_pay12 (k0_pay4 h wu) oc wd xc g2) lg lb (ix3 a r l)
      = last o x g2 h wu wd lg lb ⟨512 + r, by omega⟩ l := by
  obtain rfl : a = 0 := Subsingleton.elim _ _
  pointwise [k0_pay13, k0_pay12, k0_pay11, k0_pay4, last, lnorm, resid, mean, part, hiddenSum, hunit, ho, hx]

/-- Rows 768 to 1023. -/
theorem piece3_at (ho : ∀ k, oc (ix3 0 r k) = o (ix3 0 ⟨768 + r, by omega⟩ k)) (hx : ∀ k, xc (ix3 0 r k) = x (ix3 0 ⟨768 + r, by omega⟩ k)) :
    k0_pay3 (F := Ideal) (k0_pay14 (k0_pay4 h wu) oc wd) (k0_pay15 xc) g2 lg lb (ix3 a r l)
      = last o x g2 h wu wd lg lb ⟨768 + r, by omega⟩ l := by
  obtain rfl : a = 0 := Subsingleton.elim _ _
  pointwise [k0_pay3, k0_pay14, k0_pay15, k0_pay4, last, lnorm, resid, mean, part, hiddenSum, hunit, ho, hx]
end pieces
end Cert.Kernel2Ideal.Ffn
-- ==== Proof.FfnFinal.lean ====
module

public import proofs.«01_k».proof.Proof.FfnBlock
public import proofs.«01_k».proof.Proof.Gen.Kernel2Ideal.Frame
public import Idealize.ShloMosaic.Lib.Pipeline.ValueKit
public import Idealize.ShloMosaic.Lib.Claim

@[expose] public section

set_option maxRecDepth 16384

/-! The feed-forward call: what the result array holds after the run. -/

noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Ffn
variable (m : (ℓ : Loc nD τ sig) → Buf (Elt Ideal) ℓ)

/-- Which block each window reads or writes at grid point `t`. -/
theorem idx : ∀ t : Fin cfg0.N, win0_0.index t = ![t.val / 16, 0]
    ∧ win0_1.index t = ![t.val / 128, t.val / 16 % 8, 0]
    ∧ win0_2.index t = ![128 + t.val / 128, 0, 5] ∧ win0_3.index t = ![0, t.val % 16]
    ∧ win0_4.index t = ![t.val % 16, 0] ∧ win0_5.index t = ![0, 0] ∧ win0_6.index t = ![0, 0]
    ∧ win0_7.index t = ![t.val / 128, t.val / 16 % 8, 0] :=
  (by decide +kernel : ∀ t : Fin grid0.N, _)

/-- What hidden step `s` (512 units) adds to row `row` of the whole array at lane `l`. -/
def step (H : FVec Ideal S16384x2048 .bf16) (Wu : FVec Ideal S2048x8192 .bf16) (Wd : FVec Ideal S8192x2048 .bf16)
    (row : Fin 16384) (l : Fin 2048) (s : Fin 16) : EReal :=
  hiddenSum (n := 512) (fun d => H (ix2 row d)) (fun d k => Wu (ix2 d ⟨s * 512 + k, by omega⟩))
    (fun k => Wd (ix2 ⟨s * 512 + k, by omega⟩ l))

/-- The same at a step number, zero past the last step. -/
def stepN (H : FVec Ideal S16384x2048 .bf16) (Wu : FVec Ideal S2048x8192 .bf16) (Wd : FVec Ideal S8192x2048 .bf16)
    (row : Fin 16384) (l : Fin 2048) (s : ℕ) : EReal :=
  if h : s < 16 then step H Wu Wd row l ⟨s, h⟩ else 0

/-- The steps together are the sum over all 8192 hidden units. -/
theorem steps_eq (H : FVec Ideal S16384x2048 .bf16) (Wu : FVec Ideal S2048x8192 .bf16) (Wd : FVec Ideal S8192x2048 .bf16)
    (row : Fin 16384) (l : Fin 2048) :
    ∑ s ∈ Finset.range 16, stepN H Wu Wd row l s
      = hiddenSum (fun d => H (ix2 row d)) (fun d k => Wu (ix2 d k)) (fun k => Wd (ix2 k l)) :=
  stages_eq (fun d => H (ix2 row d)) (fun d k => Wu (ix2 d k)) (fun k => Wd (ix2 k l))

/-- The arguments as arrays. -/
abbrev aH (c : Dev nD) : FVec Ideal S16384x2048 .bf16 := m ((c : Thread nD τ).loc main_arg0)
abbrev aX (c : Dev nD) : FVec Ideal S2x8192x2048 .f32 := m ((c : Thread nD τ).loc main_arg1)
abbrev aM (c : Dev nD) : FVec Ideal S136x12288 .f32 := m ((c : Thread nD τ).loc main_arg2)
abbrev aWu (c : Dev nD) : FVec Ideal S2048x8192 .bf16 := m ((c : Thread nD τ).loc main_arg3)
abbrev aWd (c : Dev nD) : FVec Ideal S8192x2048 .bf16 := m ((c : Thread nD τ).loc main_arg4)
abbrev aG (c : Dev nD) : FVec Ideal S2048 .f32 := m ((c : Thread nD τ).loc main_arg5)
abbrev aB (c : Dev nD) : FVec Ideal S2048 .f32 := m ((c : Thread nD τ).loc main_arg6)

/-- The blocks of point `t`, as arrays. -/
abbrev bH (c : Dev nD) (t : Fin cfg0.N) : FVec Ideal S1024x2048 .bf16 := iblk m c 0 t
abbrev bX (c : Dev nD) (t : Fin cfg0.N) : FVec Ideal S1x1024x2048 .f32 := iblk m c 1 t
abbrev bG2 (c : Dev nD) (t : Fin cfg0.N) : FVec Ideal S1x1x2048 .f32 := iblk m c 2 t
abbrev bWu (c : Dev nD) (t : Fin cfg0.N) : FVec Ideal S2048x512 .bf16 := iblk m c 3 t
abbrev bWd (c : Dev nD) (t : Fin cfg0.N) : FVec Ideal S512x2048 .bf16 := iblk m c 4 t
abbrev bG (c : Dev nD) (t : Fin cfg0.N) : FVec Ideal S1x2048 .f32 := iblk m c 5 t
abbrev bB (c : Dev nD) (t : Fin cfg0.N) : FVec Ideal S1x2048 .f32 := iblk m c 6 t

theorem bH_at (c : Dev nD) (t : Fin cfg0.N) (r : Fin 1024) (d : Fin 2048) (h : t.val / 16 * 1024 + r < 16384) :
    bH m c t (ix2 r d) = aH m c (ix2 ⟨t.val / 16 * 1024 + r, h⟩ d) := by
  blk_ext [iblk, V, idx t]
theorem bWu_at (c : Dev nD) (t : Fin cfg0.N) (d : Fin 2048) (k : Fin 512) (h : t.val % 16 * 512 + k < 8192) :
    bWu m c t (ix2 d k) = aWu m c (ix2 d ⟨t.val % 16 * 512 + k, h⟩) := by
  blk_ext [iblk, V, idx t]
theorem bWd_at (c : Dev nD) (t : Fin cfg0.N) (k : Fin 512) (l : Fin 2048) (h : t.val % 16 * 512 + k < 8192) :
    bWd m c t (ix2 k l) = aWd m c (ix2 ⟨t.val % 16 * 512 + k, h⟩ l) := by
  blk_ext [iblk, V, idx t]
theorem bX_at (c : Dev nD) (t : Fin cfg0.N) (r : Fin 1024) (k : Fin 2048) (h : t.val / 128 < 2) (h' : t.val / 16 % 8 * 1024 + r < 8192) :
    bX m c t (ix3 0 r k) = aX m c (ix3 ⟨t.val / 128, h⟩ ⟨t.val / 16 % 8 * 1024 + r, h'⟩ k) := by
  blk_ext [iblk, V, idx t]
theorem bG2_at (c : Dev nD) (t : Fin cfg0.N) (k : Fin 2048) (h : 128 + t.val / 128 < 136) :
    bG2 m c t (ix3 0 0 k) = aM m c (ix2 ⟨128 + t.val / 128, h⟩ ⟨10240 + k, by omega⟩) := by
  unfold bG2 iblk
  entry_read
  blk_simp
  pointwise
  blk_ext [idx t]
theorem bG_at (c : Dev nD) (t : Fin cfg0.N) (k : Fin 2048) : bG m c t (ix2 0 k) = aG m c (ix1 k) := by
  unfold bG iblk
  entry_read
  blk_simp
  pointwise
  blk_ext [idx t]
theorem bB_at (c : Dev nD) (t : Fin cfg0.N) (k : Fin 2048) : bB m c t (ix2 0 k) = aB m c (ix1 k) := by
  unfold bB iblk
  entry_read
  blk_simp
  pointwise
  blk_ext [idx t]
end Cert.Kernel2Ideal.Ffn
-- ==== Proof.FfnArray.lean ====
module

public import proofs.«01_k».proof.Proof.FfnFinal

@[expose] public section

set_option maxRecDepth 16384

/-! The feed-forward call: the running sum over the hidden axis, and the array written at its end. -/

noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Ffn
variable (m : (ℓ : Loc nD τ sig) → Buf (Elt Ideal) ℓ)

/-- What point `t` adds is its step of the whole sum. -/
theorem part_eq (c : Dev nD) (t : Fin cfg0.N) (r : Fin 1024) (l : Fin 2048) (h : t.val / 16 * 1024 + r < 16384) :
    part (bH m c t) (bWu m c t) (bWd m c t) r l
      = stepN (aH m c) (aWu m c) (aWd m c) ⟨t.val / 16 * 1024 + r, h⟩ l (t.val % 16) := by
  have h16 : t.val % 16 < 16 := Nat.mod_lt _ (by decide)
  unfold stepN part step
  rw [dif_pos h16]
  simp only [bH_at m c t r _ h, fun d (k : Fin 512) => bWu_at m c t d k (by omega), fun (k : Fin 512) l => bWd_at m c t k l (by omega)]

/-- Before the last step the block holds the sum of the steps so far. -/
theorem outs_eq (c : Dev nD) (a : Fin 1) (r : Fin 1024) (l : Fin 2048) : ∀ (n : ℕ) (hn : n < cfg0.N), n % 16 ≤ 14 →
    ∀ h : n / 16 * 1024 + r < 16384, outsAt0 m c n hn (ix3 a r l)
      = ∑ s ∈ Finset.range (n % 16 + 1), stepN (aH m c) (aWu m c) (aWd m c) ⟨n / 16 * 1024 + r, h⟩ l s := by
  intro n
  induction n with
  | zero =>
    intro hn h14 h
    rw [outsAt0_A m c ⟨0, hn⟩ (by dsimp only) (by dsimp only; omega) (by dsimp only; omega)]
    frame_out
    refine (pay1_at _ _ _ a r l).trans ?_
    rw [show (0 % 16 + 1) = 1 from rfl, Finset.sum_range_one]
    exact part_eq m c ⟨0, hn⟩ r l h
  | succ n ih =>
    intro hn h14 h
    by_cases h0 : (n + 1) % 16 = 0
    · rw [outsAt0_A m c ⟨n + 1, hn⟩ h0 (by dsimp only; omega) (by dsimp only; omega)]
      frame_out
      refine (pay1_at _ _ _ a r l).trans ?_
      have e := part_eq m c ⟨n + 1, hn⟩ r l h
      simp only [h0] at e ⊢
      rw [Finset.sum_range_one]
      exact e
    · rw [outsAt0_B m c ⟨n + 1, hn⟩ h0 (by dsimp only; omega) (by dsimp only; omega)]
      frame_out
      refine (pay2_at _ _ _ _ a r l).trans ?_
      have e := part_eq m c ⟨n + 1, hn⟩ r l h
      have hq : (n + 1) / 16 = n / 16 := by omega
      have hr : (n + 1) % 16 = n % 16 + 1 := by omega
      have hI := ih (Nat.lt_of_succ_lt hn) (by omega) (by omega)
      simp only [hq, hr] at e ⊢
      rw [Finset.sum_range_succ]
      exact congrArg₂ (· + ·) hI e

/-- The result at row `s` of batch `n`, lane `l`, from the arguments. -/
def resultAt (H : FVec Ideal S16384x2048 .bf16) (X : FVec Ideal S2x8192x2048 .f32) (M : FVec Ideal S136x12288 .f32)
    (Wu : FVec Ideal S2048x8192 .bf16) (Wd : FVec Ideal S8192x2048 .bf16) (g b : FVec Ideal S2048 .f32)
    (n : Fin 2) (s : Fin 8192) (l : Fin 2048) : EReal :=
  lnorm (resid (fun k => X (ix3 n s k)) (fun k => M (ix2 ⟨128 + n, by omega⟩ ⟨10240 + k, by omega⟩))
      (fun k => hiddenSum (fun d => H (ix2 ⟨n * 8192 + s, by omega⟩ d)) (fun d u => Wu (ix2 d u)) (fun u => Wd (ix2 u k))))
    (fun k => g (ix1 k)) (fun k => b (ix1 k)) l

/-- The result array. -/
def result (c : Dev nD) : FVec Ideal S2x8192x2048 .f32 := fun i =>
  resultAt (aH m c) (aX m c) (aM m c) (aWu m c) (aWd m c) (aG m c) (aB m c) (i 0) (i 1) (i 2)

/-- The last step leaves the result's rows in the block. -/
theorem last_eq (c : Dev nD) (t : Fin cfg0.N) (h15 : t.val % 16 = 15) (r : Fin 1024) (l : Fin 2048)
    (hn : t.val / 128 < 2) (hs : t.val / 16 % 8 * 1024 + r < 8192) :
    last (outsAt0 m c (t.val - 1) (Nat.lt_of_le_of_lt (Nat.sub_le _ _) t.isLt)) (bX m c t) (bG2 m c t) (bH m c t) (bWu m c t) (bWd m c t) (bG m c t) (bB m c t) r l
      = resultAt (aH m c) (aX m c) (aM m c) (aWu m c) (aWd m c) (aG m c) (aB m c) ⟨t.val / 128, hn⟩
          ⟨t.val / 16 % 8 * 1024 + r, hs⟩ l := by
  have hrow : t.val / 16 * 1024 + r < 16384 := by omega
  have hff : ∀ k, outsAt0 m c (t.val - 1) (Nat.lt_of_le_of_lt (Nat.sub_le _ _) t.isLt) (ix3 0 r k)
        + part (bH m c t) (bWu m c t) (bWd m c t) r k
      = hiddenSum (fun d => aH m c (ix2 ⟨t.val / 128 * 8192 + (t.val / 16 % 8 * 1024 + r), by omega⟩ d))
          (fun d u => aWu m c (ix2 d u)) (fun u => aWd m c (ix2 u k)) := by
    intro k
    have hq : (t.val - 1) / 16 = t.val / 16 := by omega
    have hr : (t.val - 1) % 16 = 14 := by omega
    have e1 := outs_eq m c 0 r k (t.val - 1) (Nat.lt_of_le_of_lt (Nat.sub_le _ _) t.isLt) (by omega) (by omega)
    have e2 := part_eq m c t r k hrow
    have e3 := steps_eq (aH m c) (aWu m c) (aWd m c) ⟨t.val / 16 * 1024 + r, hrow⟩ k
    simp only [hq, hr] at e1
    simp only [h15] at e2
    rw [Finset.sum_range_succ] at e3
    have hrw : (⟨t.val / 128 * 8192 + (t.val / 16 % 8 * 1024 + r), by omega⟩ : Fin 16384) = ⟨t.val / 16 * 1024 + r, hrow⟩ :=
      Fin.ext (by dsimp only; omega)
    rw [hrw]
    exact (congrArg₂ (· + ·) e1 e2).trans e3
  unfold last resultAt
  have hz : ∀ x x' g g' f f' : Fin 2048 → EReal, x = x' → g = g' → f = f' → resid x g f = resid x' g' f' := by
    intro x x' g g' f f' h1 h2 h3; rw [h1, h2, h3]
  have hl : ∀ z z' g g' b b' : Fin 2048 → EReal, z = z' → g = g' → b = b' → lnorm z g b l = lnorm z' g' b' l := by
    intro z z' g g' b b' h1 h2 h3; rw [h1, h2, h3]
  exact hl _ _ _ _ _ _ (hz _ _ _ _ _ _ (funext fun k => bX_at m c t r k hn hs)
    (funext fun k => bG2_at m c t k (by omega)) (funext hff)) (funext fun k => bG_at m c t k) (funext fun k => bB_at m c t k)

set_option maxHeartbeats 1000000 in
/-- The result array after the run. -/
theorem final (c : Dev nD) : (dats m 0 c).arrAt 7 (cfgs 0).N = result m c := by
  refine (dats m 0 c).arrAt_eq_of_covers 7 _ (by decide +kernel) fun t hf y => ?_
  have h15 : t.val % 16 = 15 := by simpa using (flush0_7 t).mp hf
  have hN : t.val < 256 := lt_of_lt_of_eq t.isLt N_0
  blk_simp
  rw [after0_7, outsAt0_C m c t (by omega) (by omega) h15]
  frame_out
  have key : ∀ (r : Fin 1024) (l : Fin 2048), (y 1 : ℕ) = r → (y 2 : ℕ) = l →
      last (outsAt0 m c (t.val - 1) (Nat.lt_of_le_of_lt (Nat.sub_le _ _) t.isLt)) (bX m c t) (bG2 m c t) (bH m c t) (bWu m c t) (bWd m c t) (bG m c t) (bB m c t) r l
        = result m c (((cfg0.win 7).blk t).view.emb y) := by
    intro r l hr hl
    rw [last_eq m c t h15 r l (by omega) (by omega)]
    unfold result
    have hy0 : (y 0 : ℕ) < 1 := (y 0).isLt
    have hc : ∀ (n n' : Fin 2) (s s' : Fin 8192) (l l' : Fin 2048), n = n' → s = s' → l = l' →
        resultAt (aH m c) (aX m c) (aM m c) (aWu m c) (aWd m c) (aG m c) (aB m c) n s l
          = resultAt (aH m c) (aX m c) (aM m c) (aWu m c) (aWd m c) (aG m c) (aB m c) n' s' l' := by
      intro n n' s s' l l' h1 h2 h3; rw [h1, h2, h3]
    refine hc _ _ _ _ _ _ (Fin.ext ?_) (Fin.ext ?_) (Fin.ext ?_)
    all_goals (blk_simp [idx t] <;> (try dsimp only) <;> omega)
  canon_tiles x h
  · rw [eq_ix3 x]
    refine (piece3_at (outsAt0 m c (t.val - 1) (Nat.lt_of_le_of_lt (Nat.sub_le _ _) t.isLt)) (bX m c t) (bG2 m c t) (bH m c t) (bWu m c t) (bWd m c t) (bG m c t) (bB m c t) _ _ (x 0) (x 1) (x 2) (fun k => ?_) (fun k => ?_)).trans (key _ _ h1 h2)
    all_goals (pointwise)
  · rw [eq_ix3 x]
    refine (piece2_at (outsAt0 m c (t.val - 1) (Nat.lt_of_le_of_lt (Nat.sub_le _ _) t.isLt)) (bX m c t) (bG2 m c t) (bH m c t) (bWu m c t) (bWd m c t) (bG m c t) (bB m c t) _ _ (x 0) (x 1) (x 2) (fun k => ?_) (fun k => ?_)).trans (key _ _ h1 h2)
    all_goals (pointwise)
  · rw [eq_ix3 x]
    refine (piece1_at (outsAt0 m c (t.val - 1) (Nat.lt_of_le_of_lt (Nat.sub_le _ _) t.isLt)) (bX m c t) (bG2 m c t) (bH m c t) (bWu m c t) (bWd m c t) (bG m c t) (bB m c t) _ _ (x 0) (x 1) (x 2) (fun k => ?_) (fun k => ?_)).trans (key _ _ h1 h2)
    all_goals (pointwise)
  · rw [eq_ix3 x]
    refine (piece0_at (outsAt0 m c (t.val - 1) (Nat.lt_of_le_of_lt (Nat.sub_le _ _) t.isLt)) (bX m c t) (bG2 m c t) (bH m c t) (bWu m c t) (bWd m c t) (bG m c t) (bB m c t) _ _ (x 0) (x 1) (x 2) (fun k => ?_) (fun k => ?_)).trans (key _ _ h1 h2)
    all_goals (pointwise)
end Cert.Kernel2Ideal.Ffn
-- ==== Proof.FfnRef.lean ====
module

public import proofs.«01_k».proof.Proof.FfnMath
public import proofs.«01_k».proof.Proof.Gen.Reference2Ideal.Read
public import Idealize.ShloMosaic.Lib.Pointwise

@[expose] public section

set_option maxRecDepth 16384

/-! The feed-forward call: what the reference computes, read at an element over the extended reals. -/

noncomputable section
open Idealize.ShloMosaic Idealize.ShloMosaic.TcCoe Idealize.SL.Sem
namespace Cert.Reference2Ideal.Ffn
open Cert.Reference2Ideal Cert.Reference2Ideal.Gen Cert.Reference2Ideal.Read Cert.Ffn
variable (x0 : FVec Ideal S16384x2048 .bf16) (x1 : FVec Ideal S2x8192x2048 .f32) (x2 : FVec Ideal S136x12288 .f32)
  (x3 : FVec Ideal S2048x8192 .bf16) (x4 : FVec Ideal S8192x2048 .bf16) (x5 x6 : FVec Ideal S2048 .f32)
  (n : Fin 2) (s : Fin 8192) (l : Fin 2048)

/-- The two products with the squared positive part between them. -/
theorem ff_at : val_main_v9 (F := Ideal) x0 x3 x4 (ix3 n s l)
    = hiddenSum (fun d => x0 (ix2 ⟨n * 8192 + s, by omega⟩ d)) (fun d k => x3 (ix2 d k)) (fun k => x4 (ix2 k l)) := by
  pointwise [val_main_v9, val_main_v8, val_main_v7, val_main_v6, val_main_call0_v0, val_main_call0_cst, val_main_v5,
    val_main_v4, val_main_v3, val_main_v2, hiddenSum, hunit]

/-- The residual row. -/
theorem resid_at : val_main_v14 (F := Ideal) x0 x1 x2 x3 x4 (ix3 n s l)
    = resid (fun k => x1 (ix3 n s k)) (fun k => x2 (ix2 ⟨128 + n, by omega⟩ ⟨10240 + k, by omega⟩))
        (fun k => val_main_v9 (F := Ideal) x0 x3 x4 (ix3 n s k)) l := by
  pointwise [val_main_v14, val_main_v13, val_main_v12, val_main_v11, val_main_v10, val_main_cst, val_main_v1,
    val_main_v0, resid]

/-- The result: the norm of the residual row. -/
theorem ref_at : val_main_v38 (F := Ideal) x0 x1 x2 x3 x4 x5 x6 (ix3 n s l)
    = lnorm (resid (fun k => x1 (ix3 n s k)) (fun k => x2 (ix2 ⟨128 + n, by omega⟩ ⟨10240 + k, by omega⟩))
        (fun k => hiddenSum (fun d => x0 (ix2 ⟨n * 8192 + s, by omega⟩ d)) (fun d u => x3 (ix2 d u)) (fun u => x4 (ix2 u k))))
      (fun k => x5 (ix1 k)) (fun k => x6 (ix1 k)) l := by
  simp only [← ff_at]
  pointwise [val_main_v38, val_main_v37, val_main_v36, val_main_v35, val_main_v34, val_main_v33, val_main_v32,
    val_main_v31, val_main_v30, val_main_v29, val_main_v28, val_main_cst_4, val_main_v27, val_main_v26, val_main_v25,
    val_main_v24, val_main_cst_3, val_main_v23, val_main_v22, val_main_cst_2, val_main_v21, val_main_v20, val_main_v19,
    val_main_v18, val_main_v17, val_main_cst_1, val_main_v16, val_main_v15, val_main_cst_0, resid_at, lnorm, mean]
end Cert.Reference2Ideal.Ffn
-- ==== Proof.FfnClaim.lean ====
module

public import proofs.«01_k».proof.Defs
public import proofs.«01_k».proof.Proof.Gen.Kernel2.Frame
public import proofs.«01_k».proof.Proof.Gen.Kernel2Ideal.Value
public import proofs.«01_k».proof.Proof.FfnArray
public import proofs.«01_k».proof.Proof.FfnRef
public import Idealize.ShloMosaic.Lib.Claim
public import Idealize.ShloMosaic.Lib.Quiescent

@[expose] public section

set_option maxRecDepth 16384

/-! The feed-forward call: the reference's array is the kernel's, and the claims about the two. -/

noncomputable section
open Idealize.ShloMosaic Idealize.ShloMosaic.TcCoe Idealize.SL.Sem

namespace Cert.Proof.Ffn

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- The reference's result is the kernel's result array, element by element. -/
theorem ref_eq (x0 : FVec Ideal Cert.Kernel2Ideal.S16384x2048 .bf16) (x1 : FVec Ideal Cert.Kernel2Ideal.S2x8192x2048 .f32)
    (x2 : FVec Ideal Cert.Kernel2Ideal.S136x12288 .f32) (x3 : FVec Ideal Cert.Kernel2Ideal.S2048x8192 .bf16)
    (x4 : FVec Ideal Cert.Kernel2Ideal.S8192x2048 .bf16) (x5 x6 : FVec Ideal Cert.Kernel2Ideal.S2048 .f32)
    (i : Cert.Kernel2Ideal.S2x8192x2048.Idx) :
    Cert.Reference2Ideal.Read.val_main_v38 (F := Ideal) x0 x1 x2 x3 x4 x5 x6 i
      = Cert.Kernel2Ideal.Ffn.resultAt x0 x1 x2 x3 x4 x5 x6 (i 0) (i 1) (i 2) := by
  obtain ⟨n, s, l, rfl⟩ : ∃ (n : Fin 2) (s : Fin 8192) (l : Fin 2048), i = ix3 n s l := ⟨i 0, i 1, i 2, eq_ix3 i⟩
  exact Cert.Reference2Ideal.Ffn.ref_at x0 x1 x2 x3 x4 x5 x6 n s l

/-- Kernel and reference end with equal results over the extended reals. -/
theorem algebraic : Cert.algebraic_Kernel2Ideal_Reference2Ideal := by
  intro m ρ m' ρ' _ hagree
  refine ⟨fun c => (Cert.Kernel2Ideal.Gen.dats m 0 c).arrAt 7 Cert.Kernel2Ideal.cfg0.N,
    Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine Eq.trans ?_ (Cert.Kernel2Ideal.Ffn.final m c).symm
  rw [Cert.Reference2Ideal.Read.val_main_v38_eq]
  obtain ⟨h0, h1, h2, h3, h4, h5, h6⟩ := hagree c
  rw [h0, h1, h2, h3, h4, h5, h6]
  funext i
  exact ref_eq _ _ _ _ _ _ _ i

end Cert.Proof.Ffn
-- ==== Proof.InpMath.lean ====
module

public import proofs.«01_k».proof.Proof.FfnMath

@[expose] public section

/-! The projection call: the arithmetic of one row, shared by the kernel's side and the reference's. -/

noncomputable section
open Idealize.ShloMosaic
namespace Cert.Inp
open Cert.Ffn

/-- The normed row `z`, scaled by one plus `sc` and shifted by `sh`, at lane `l`. -/
def hrow (z sh sc : Fin 2048 → EReal) (l : Fin 2048) : EReal :=
  (z l - mean z) * Ideal.rsqrt (mean (fun k => (z k - mean z) * (z k - mean z)) + Ideal.ofBits .f32 0x3727C5AC#32)
    * (Ideal.ofBits .f32 0x3F800000#32 + sc l) + sh l

/-- The row `h` against a column of the weight. -/
def proj (h w : Fin 2048 → EReal) : EReal := ∑ d, h d * w d

/-- The short convolution: the row two before, the row before and the row itself, weighted. -/
def conv (c0 c1 c2 u2 u1 u0 : EReal) : EReal := c0 * u2 + c1 * u1 + c2 * u0

/-- The sequence `f`, `k` rows earlier: zero before its start. -/
def past (f : ℕ → EReal) (k t : ℕ) : EReal := if t < k then 0 else f (t - k)

end Cert.Inp
-- ==== Proof.InpBlock.lean ====
module

public import proofs.«01_k».proof.Proof.Gen.Kernel3Ideal.Skeleton
public import proofs.«01_k».proof.Proof.InpMath
public import Idealize.ShloMosaic.Lib.Pointwise
public import Idealize.ShloMosaic.Lib.WordCmp

@[expose] public section

set_option maxRecDepth 16384

/-! The projection call: what one grid point computes, read at an element over the extended reals. -/

noncomputable section
open Idealize.ShloMosaic Idealize.ShloMosaic.TcCoe Idealize.SL.Sem
namespace Cert.Kernel3Ideal.Inp
open Cert.Kernel3Ideal Cert.Kernel3Ideal.Gen Cert.Ffn Cert.Inp

/-- Column `j` of the weight against row `r` of the block. -/
def cell (x : FVec Ideal S1x512x2048 .f32) (sh sc : FVec Ideal S1x1x2048 .f32) (w : FVec Ideal S2048x4608 .bf16)
    (r : Fin 512) (j : Fin 4608) : EReal :=
  proj (hrow (fun k => x (ix3 0 r k)) (fun k => sh (ix3 0 0 k)) (fun k => sc (ix3 0 0 k))) (fun d => w (ix2 d j))

/-- The gated value that the convolution reads. -/
def gate (x : FVec Ideal S1x512x2048 .f32) (sh sc : FVec Ideal S1x1x2048 .f32) (w : FVec Ideal S2048x4608 .bf16)
    (r : Fin 512) (l : Fin 1024) : EReal :=
  cell x sh sc w r ⟨2560 + l, by omega⟩ * cell x sh sc w r ⟨3584 + l, by omega⟩

/-- The gated value one row earlier: the second carried row before the block's first. -/
def gate1 (x : FVec Ideal S1x512x2048 .f32) (sh sc : FVec Ideal S1x1x2048 .f32) (w : FVec Ideal S2048x4608 .bf16)
    (g : Fin 2 → Fin 1024 → EReal) (r : Fin 512) (l : Fin 1024) : EReal :=
  if r.val = 0 then g 1 l else gate x sh sc w ⟨(r.val + 512 - 1) % 512, Nat.mod_lt _ (by decide)⟩ l

/-- The gated value two rows earlier. -/
def gate2 (x : FVec Ideal S1x512x2048 .f32) (sh sc : FVec Ideal S1x1x2048 .f32) (w : FVec Ideal S2048x4608 .bf16)
    (g : Fin 2 → Fin 1024 → EReal) (r : Fin 512) (l : Fin 1024) : EReal :=
  if r.val = 0 then g 0 l else if r.val = 1 then g 1 l
    else gate x sh sc w ⟨(r.val + 512 - 2) % 512, Nat.mod_lt _ (by decide)⟩ l

/-- The gated convolution's element. -/
def mixed (x : FVec Ideal S1x512x2048 .f32) (sh sc : FVec Ideal S1x1x2048 .f32) (w : FVec Ideal S2048x4608 .bf16)
    (cw : FVec Ideal S3x1024 .f32) (g : Fin 2 → Fin 1024 → EReal) (r : Fin 512) (l : Fin 1024) : EReal :=
  cell x sh sc w r ⟨1536 + l, by omega⟩ * conv (cw (ix2 0 l)) (cw (ix2 1 l)) (cw (ix2 2 l))
    (gate2 x sh sc w g r l) (gate1 x sh sc w g r l) (gate x sh sc w r l)

section pieces
variable (x : FVec Ideal S1x512x2048 .f32) (sh sc : FVec Ideal S1x1x2048 .f32) (w : FVec Ideal S2048x4608 .bf16)
  (wq wc wx wg : FVec Ideal S2048x1024 .bf16) (wk : FVec Ideal S2048x512 .bf16) (a : Fin 1) (r : Fin 512) (l : Fin 1024)

/-- The block's rows after the norm. -/
theorem pay3_at (k : Fin 2048) : k0_pay3 (F := Ideal) x sc sh (ix2 r k)
    = hrow (fun k => x (ix3 0 r k)) (fun k => sh (ix3 0 0 k)) (fun k => sc (ix3 0 0 k)) k := by
  pointwise [k0_pay3, hrow, mean]

/-- The queries, scaled. -/
theorem pay6_at (hw : ∀ d k, wq (ix2 d k) = w (ix2 d ⟨k, by omega⟩)) :
    k0_pay6 (F := Ideal) (k0_pay4 x sc sh wq) (k0_pay5 (F := Ideal)) (ix2 r l)
      = cell x sh sc w r ⟨l, by omega⟩ * Ideal.ofBits .f32 0x3E000000#32 := by
  pointwise [k0_pay6, k0_pay5, k0_pay4, pay3_at, cell, proj, hw]

/-- The keys and values. -/
theorem pay7_at (k : Fin 512) (hw : ∀ d k, wk (ix2 d k) = w (ix2 d ⟨1024 + k, by omega⟩)) :
    k0_pay7 (F := Ideal) (k0_pay3 x sc sh) wk (ix2 r k) = cell x sh sc w r ⟨1024 + k, by omega⟩ := by
  pointwise [k0_pay7, pay3_at, cell, proj, hw]

/-- The gated value. -/
theorem pay8_at (hc : ∀ d k, wc (ix2 d k) = w (ix2 d ⟨2560 + k, by omega⟩))
    (hx : ∀ d k, wx (ix2 d k) = w (ix2 d ⟨3584 + k, by omega⟩)) :
    k0_pay8 (F := Ideal) (k0_pay3 x sc sh) wc wx (ix3 a r l) = gate x sh sc w r l := by
  pointwise [k0_pay8, pay3_at, gate, cell, proj, hc, hx]

/-- The carried rows: the block's last eight gated rows. -/
theorem pay16_at (v : FVec Ideal S1x512x1024 .f32) (b : Fin 8) :
    k0_pay16 (F := Ideal) v (ix2 b l) = v (ix3 0 ⟨504 + b, by omega⟩ l) := by
  pointwise [k0_pay16, k0_pay15]

/-- The same rows as the block stored. -/
theorem pay17_at (v : FVec Ideal S1x512x1024 .f32) (b : Fin 8) :
    k0_pay17 (F := Ideal) v (ix3 a b l) = v (ix3 0 ⟨504 + b, by omega⟩ l) := by
  pointwise [k0_pay17, k0_pay15]

variable (hist : FVec Ideal S2x1024 .f32)

/-- One row earlier. -/
theorem pay10_at (hc : ∀ d k, wc (ix2 d k) = w (ix2 d ⟨2560 + k, by omega⟩))
    (hx : ∀ d k, wx (ix2 d k) = w (ix2 d ⟨3584 + k, by omega⟩)) :
    k0_pay10 (F := Ideal) (k0_pay3 x sc sh) wc wx hist (ix3 a r l)
      = gate1 x sh sc w (fun b l => hist (ix2 b l)) r l := by
  pointwise [k0_pay10, k0_pay9, fun a r l => pay8_at x sh sc w wc wx a r l hc hx, gate1]
  word_cmp

/-- Two rows earlier. -/
theorem um2_at (hc : ∀ d k, wc (ix2 d k) = w (ix2 d ⟨2560 + k, by omega⟩))
    (hx : ∀ d k, wx (ix2 d k) = w (ix2 d ⟨3584 + k, by omega⟩)) :
    select k0_pay11 (k0_pay13 (F := Ideal) hist) (k0_pay12 (F := Ideal) (k0_pay3 x sc sh) wc wx hist) (ix3 a r l)
      = gate2 x sh sc w (fun b l => hist (ix2 b l)) r l := by
  pointwise [k0_pay11, k0_pay12, k0_pay13, k0_pay9, fun a r l => pay8_at x sh sc w wc wx a r l hc hx, gate2]
  word_cmp

/-- The gated convolution. -/
theorem pay14_at (cw : FVec Ideal S3x1024 .f32) (hc : ∀ d k, wc (ix2 d k) = w (ix2 d ⟨2560 + k, by omega⟩))
    (hx : ∀ d k, wx (ix2 d k) = w (ix2 d ⟨3584 + k, by omega⟩)) (hg : ∀ d k, wg (ix2 d k) = w (ix2 d ⟨1536 + k, by omega⟩)) :
    k0_pay14 (F := Ideal) (k0_pay3 x sc sh) (k0_pay8 (k0_pay3 x sc sh) wc wx) (k0_pay10 (k0_pay3 x sc sh) wc wx hist)
      k0_pay11 (k0_pay12 (k0_pay3 x sc sh) wc wx hist) (k0_pay13 hist) cw wg (ix2 r l)
      = mixed x sh sc w cw (fun b l => hist (ix2 b l)) r l := by
  have e2 := fun a r l => um2_at x sh sc w wc wx a r l hist hc hx
  have e1 := fun a r l => pay10_at x sh sc w wc wx a r l hist hc hx
  have e0 := fun a r l => pay8_at x sh sc w wc wx a r l hc hx
  have e3 := fun r k => pay3_at x sh sc r k
  generalize k0_pay3 (F := Ideal) x sc sh = h at e0 e1 e2 e3 ⊢
  generalize k0_pay8 (F := Ideal) h wc wx = v8 at e0 ⊢
  generalize k0_pay10 (F := Ideal) h wc wx hist = v10 at e1 ⊢
  unfold k0_pay14
  generalize select k0_pay11 (k0_pay13 (F := Ideal) hist) (k0_pay12 (F := Ideal) h wc wx hist) = v12 at e2 ⊢
  pointwise [e0, e1, e2, e3, mixed, conv, cell, proj, hg]
end pieces
end Cert.Kernel3Ideal.Inp
-- ==== Proof.InpFinal.lean ====
module

public import proofs.«01_k».proof.Proof.InpBlock
public import proofs.«01_k».proof.Proof.Gen.Kernel3Ideal.Frame
public import Idealize.ShloMosaic.Lib.Pipeline.ValueKit
public import Idealize.ShloMosaic.Lib.Claim

@[expose] public section

set_option maxRecDepth 16384

/-! The projection call: the blocks a grid point reads, in terms of the arguments. -/

noncomputable section
open Idealize.ShloMosaic Idealize.ShloMosaic.TcCoe Idealize.SL.Sem
open Idealize.ShloMosaic.Pipeline (Dat)
namespace Cert.Kernel3Ideal.Inp
open Cert.Kernel3Ideal Cert.Kernel3Ideal.Gen Cert.Ffn Cert.Inp
variable (m : (ℓ : Loc nD τ sig) → Buf (Elt Ideal) ℓ)

/-- Which block each window reads or writes at grid point `t`. -/
theorem idx : ∀ t : Fin cfg0.N, win0_0.index t = ![t.val / 16, t.val % 16, 0]
    ∧ win0_1.index t = ![128 + t.val / 16, 0, 0] ∧ win0_2.index t = ![128 + t.val / 16, 0, 1]
    ∧ win0_3.index t = ![0, 0] ∧ win0_4.index t = ![0, 0]
    ∧ win0_8.index t = ![t.val, 0] ∧ win0_9.index t = ![t.val, 0] ∧ win0_10.index t = ![t.val, 0]
    ∧ win0_11.index t = ![t.val / 16, 0, 0] :=
  (by decide +kernel : ∀ t : Fin grid0.N, _)

/-- The arguments as arrays. -/
abbrev aX (c : Dev nD) : FVec Ideal S2x8192x2048 .f32 := m ((c : Thread nD τ).loc main_arg0)
abbrev aM (c : Dev nD) : FVec Ideal S136x12288 .f32 := m ((c : Thread nD τ).loc main_arg1)
abbrev aW (c : Dev nD) : FVec Ideal S2048x4608 .bf16 := m ((c : Thread nD τ).loc main_arg2)
abbrev aC (c : Dev nD) : FVec Ideal S3x1024 .f32 := m ((c : Thread nD τ).loc main_arg3)

/-- The blocks of point `t`, as arrays. -/
abbrev bX (c : Dev nD) (t : Fin cfg0.N) : FVec Ideal S1x512x2048 .f32 := iblk m c 0 t
abbrev bSh (c : Dev nD) (t : Fin cfg0.N) : FVec Ideal S1x1x2048 .f32 := iblk m c 1 t
abbrev bSc (c : Dev nD) (t : Fin cfg0.N) : FVec Ideal S1x1x2048 .f32 := iblk m c 2 t
abbrev bW (c : Dev nD) (t : Fin cfg0.N) : FVec Ideal S2048x4608 .bf16 := iblk m c 3 t
abbrev bC (c : Dev nD) (t : Fin cfg0.N) : FVec Ideal S3x1024 .f32 := iblk m c 4 t

theorem bX_at (c : Dev nD) (t : Fin cfg0.N) (r : Fin 512) (k : Fin 2048) (h : t.val / 16 < 2) (h' : t.val % 16 * 512 + r < 8192) :
    bX m c t (ix3 0 r k) = aX m c (ix3 ⟨t.val / 16, h⟩ ⟨t.val % 16 * 512 + r, h'⟩ k) := by
  blk_ext [iblk, V, idx t]
theorem bSh_at (c : Dev nD) (t : Fin cfg0.N) (k : Fin 2048) (h : 128 + t.val / 16 < 136) :
    bSh m c t (ix3 0 0 k) = aM m c (ix2 ⟨128 + t.val / 16, h⟩ ⟨k, by omega⟩) := by
  unfold bSh iblk
  entry_read
  blk_simp
  pointwise
  blk_ext [idx t]
theorem bSc_at (c : Dev nD) (t : Fin cfg0.N) (k : Fin 2048) (h : 128 + t.val / 16 < 136) :
    bSc m c t (ix3 0 0 k) = aM m c (ix2 ⟨128 + t.val / 16, h⟩ ⟨2048 + k, by omega⟩) := by
  unfold bSc iblk
  entry_read
  blk_simp
  pointwise
  blk_ext [idx t]
theorem bW_at (c : Dev nD) (t : Fin cfg0.N) (d : Fin 2048) (j : Fin 4608) : bW m c t (ix2 d j) = aW m c (ix2 d j) := by
  blk_ext [iblk, V, idx t]
theorem bC_at (c : Dev nD) (t : Fin cfg0.N) (b : Fin 3) (l : Fin 1024) : bC m c t (ix2 b l) = aC m c (ix2 b l) := by
  blk_ext [iblk, V, idx t]

section arrays
variable (X : FVec Ideal S2x8192x2048 .f32) (M : FVec Ideal S136x12288 .f32) (W : FVec Ideal S2048x4608 .bf16)
  (C : FVec Ideal S3x1024 .f32)

/-- The projection of row `s` of sequence `n` onto column `j`. -/
def cellAt (n : Fin 2) (s : Fin 8192) (j : Fin 4608) : EReal :=
  proj (hrow (fun k => X (ix3 n s k)) (fun k => M (ix2 ⟨128 + n, by omega⟩ ⟨k, by omega⟩))
    (fun k => M (ix2 ⟨128 + n, by omega⟩ ⟨2048 + k, by omega⟩))) (fun d => W (ix2 d j))

/-- The gated value at a row of the sequence. -/
def gateAt (n : Fin 2) (s : Fin 8192) (l : Fin 1024) : EReal :=
  cellAt X M W n s ⟨2560 + l, by omega⟩ * cellAt X M W n s ⟨3584 + l, by omega⟩

/-- The same at a row number, zero past the sequence. -/
def gateN (n : Fin 2) (l : Fin 1024) (s : ℕ) : EReal := if h : s < 8192 then gateAt X M W n ⟨s, h⟩ l else 0

/-- The gated convolution. -/
def mixedAt (n : Fin 2) (s : Fin 8192) (l : Fin 1024) : EReal :=
  cellAt X M W n s ⟨1536 + l, by omega⟩ * conv (C (ix2 0 l)) (C (ix2 1 l)) (C (ix2 2 l))
    (past (gateN X M W n l) 2 s) (past (gateN X M W n l) 1 s) (gateAt X M W n s l)

/-- The queries' array. -/
def queries : FVec Ideal S16384x1024 .bf16 := fun i =>
  cellAt X M W ⟨(i 0).val / 8192, by have : (i 0).val < 16384 := (i 0).isLt; omega⟩ ⟨(i 0).val % 8192, Nat.mod_lt _ (by decide)⟩
    ⟨(i 1).val, by have : (i 1).val < 1024 := (i 1).isLt; omega⟩ * Ideal.ofBits .f32 0x3E000000#32

/-- The keys' and values' array. -/
def keyvals : FVec Ideal S16384x512 .f32 := fun i =>
  cellAt X M W ⟨(i 0).val / 8192, by have : (i 0).val < 16384 := (i 0).isLt; omega⟩ ⟨(i 0).val % 8192, Nat.mod_lt _ (by decide)⟩
    ⟨1024 + (i 1).val, by have : (i 1).val < 512 := (i 1).isLt; omega⟩

/-- The gated convolution's array. -/
def mixes : FVec Ideal S16384x1024 .bf16 := fun i =>
  mixedAt X M W C ⟨(i 0).val / 8192, by have : (i 0).val < 16384 := (i 0).isLt; omega⟩ ⟨(i 0).val % 8192, Nat.mod_lt _ (by decide)⟩ (i 1)

/-- The last eight gated rows of each sequence. -/
def tails : FVec Ideal S2x8x1024 .f32 := fun i =>
  gateAt X M W (i 0) ⟨8184 + (i 1).val, by have : (i 1).val < 8 := (i 1).isLt; omega⟩ (i 2)
end arrays

/-- A projection in a block is the projection of the row it stands for. -/
theorem cell_eq (c : Dev nD) (t : Fin cfg0.N) (r : Fin 512) (j : Fin 4608) (h : t.val / 16 < 2) (h' : t.val % 16 * 512 + r < 8192) :
    cell (bX m c t) (bSh m c t) (bSc m c t) (bW m c t) r j
      = cellAt (aX m c) (aM m c) (aW m c) ⟨t.val / 16, h⟩ ⟨t.val % 16 * 512 + r, h'⟩ j := by
  unfold cell cellAt
  simp only [fun k => bX_at m c t r k h h', fun k => bSh_at m c t k (by omega), fun k => bSc_at m c t k (by omega),
    fun d => bW_at m c t d j]

/-- So is a gated value. -/
theorem gate_eq (c : Dev nD) (t : Fin cfg0.N) (r : Fin 512) (l : Fin 1024) (h : t.val / 16 < 2) (h' : t.val % 16 * 512 + r < 8192) :
    gate (bX m c t) (bSh m c t) (bSc m c t) (bW m c t) r l
      = gateAt (aX m c) (aM m c) (aW m c) ⟨t.val / 16, h⟩ ⟨t.val % 16 * 512 + r, h'⟩ l := by
  unfold gate gateAt
  rw [cell_eq m c t r _ h h', cell_eq m c t r _ h h']
end Cert.Kernel3Ideal.Inp
-- ==== Proof.InpArray.lean ====
module

public import proofs.«01_k».proof.Proof.InpFinal

@[expose] public section

set_option maxRecDepth 16384

/-! The projection call: the rows carried from point to point, and the blocks each point stores. -/

noncomputable section
open Idealize.ShloMosaic Idealize.ShloMosaic.TcCoe Idealize.SL.Sem
open Idealize.ShloMosaic.Pipeline (Dat)
namespace Cert.Kernel3Ideal.Inp
open Cert.Kernel3Ideal Cert.Kernel3Ideal.Gen Cert.Ffn Cert.Inp
variable (m : (ℓ : Loc nD τ sig) → Buf (Elt Ideal) ℓ)

/-- Each point carries on the last eight gated rows of its block. -/
theorem carry_eq (c : Dev nD) (t : Fin cfg0.N) (b : Fin 8) (l : Fin 1024) :
    (outsAt0 m c t.val t.isLt).2.2.2.2.2.2.2 (ix2 b l)
      = gate (bX m c t) (bSh m c t) (bSc m c t) (bW m c t) ⟨504 + b, by omega⟩ l := by
  by_cases h0 : t.val % 16 = 0
  · rw [outsAt0_A m c t h0]
    frame_out
    refine (pay16_at l _ b).trans (pay8_at (bX m c t) (bSh m c t) (bSc m c t) (bW m c t) _ _ 0 _ l (fun d k => ?_) (fun d k => ?_))
    all_goals pointwise
  · rw [outsAt0_B m c t h0]
    frame_out
    refine (pay16_at l _ b).trans (pay8_at (bX m c t) (bSh m c t) (bSc m c t) (bW m c t) _ _ 0 _ l (fun d k => ?_) (fun d k => ?_))
    all_goals pointwise

/-- The last eight gated rows are stored too. -/
theorem tail_eq (c : Dev nD) (t : Fin cfg0.N) (a : Fin 1) (b : Fin 8) (l : Fin 1024) :
    (outsAt0 m c t.val t.isLt).2.2.2.1 (ix3 a b l)
      = gate (bX m c t) (bSh m c t) (bSc m c t) (bW m c t) ⟨504 + b, by omega⟩ l := by
  by_cases h0 : t.val % 16 = 0
  · rw [outsAt0_A m c t h0]
    frame_out
    refine (pay17_at a l _ b).trans (pay8_at (bX m c t) (bSh m c t) (bSc m c t) (bW m c t) _ _ 0 _ l (fun d k => ?_) (fun d k => ?_))
    all_goals pointwise
  · rw [outsAt0_B m c t h0]
    frame_out
    refine (pay17_at a l _ b).trans (pay8_at (bX m c t) (bSh m c t) (bSc m c t) (bW m c t) _ _ 0 _ l (fun d k => ?_) (fun d k => ?_))
    all_goals pointwise

/-- The queries a point stores. -/
theorem query_eq (c : Dev nD) (t : Fin cfg0.N) (r : Fin 512) (l : Fin 1024) :
    (outsAt0 m c t.val t.isLt).1 (ix2 r l)
      = cell (bX m c t) (bSh m c t) (bSc m c t) (bW m c t) r ⟨l, by omega⟩ * Ideal.ofBits .f32 0x3E000000#32 := by
  by_cases h0 : t.val % 16 = 0
  · rw [outsAt0_A m c t h0]
    frame_out
    refine pay6_at (bX m c t) (bSh m c t) (bSc m c t) (bW m c t) _ r l fun d k => ?_
    pointwise
  · rw [outsAt0_B m c t h0]
    frame_out
    refine pay6_at (bX m c t) (bSh m c t) (bSc m c t) (bW m c t) _ r l fun d k => ?_
    pointwise

/-- The keys and values a point stores. -/
theorem keyval_eq (c : Dev nD) (t : Fin cfg0.N) (r : Fin 512) (l : Fin 512) :
    (outsAt0 m c t.val t.isLt).2.1 (ix2 r l)
      = cell (bX m c t) (bSh m c t) (bSc m c t) (bW m c t) r ⟨1024 + l, by omega⟩ := by
  by_cases h0 : t.val % 16 = 0
  · rw [outsAt0_A m c t h0]
    frame_out
    refine pay7_at (bX m c t) (bSh m c t) (bSc m c t) (bW m c t) _ r l fun d k => ?_
    pointwise
  · rw [outsAt0_B m c t h0]
    frame_out
    refine pay7_at (bX m c t) (bSh m c t) (bSc m c t) (bW m c t) _ r l fun d k => ?_
    pointwise

/-- The two gated rows before the block of point `t`. -/
def before (c : Dev nD) (t : Fin cfg0.N) (b : Fin 2) (l : Fin 1024) : EReal :=
  past (gateN (aX m c) (aM m c) (aW m c) ⟨t.val / 16, by have : t.val < 32 := lt_of_lt_of_eq t.isLt N_0; omega⟩ l) (2 - b)
    (t.val % 16 * 512)

/-- What the point before a later one carried is the two gated rows before the block. -/
theorem before_eq (c : Dev nD) (t : Fin cfg0.N) (h0 : ¬ t.val % 16 = 0) (b : Fin 2) (l : Fin 1024) :
    (outsAt0 m c (t.val - 1) (Nat.lt_of_le_of_lt (Nat.sub_le _ _) t.isLt)).2.2.2.2.2.2.2 (ix2 ⟨6 + b, by omega⟩ l)
      = before m c t b l := by
  have hN : t.val < 32 := lt_of_lt_of_eq t.isLt N_0
  rw [carry_eq m c ⟨t.val - 1, Nat.lt_of_le_of_lt (Nat.sub_le _ _) t.isLt⟩, gate_eq m c _ _ l (by dsimp only; omega) (by dsimp only; omega)]
  unfold before past gateN
  rw [if_neg (by omega), dif_pos (by omega)]
  congr 1
  · exact Fin.ext (by dsimp only; omega)
  · exact Fin.ext (by dsimp only; omega)

/-- The gated convolution a point stores. -/
theorem mix_eq (c : Dev nD) (t : Fin cfg0.N) (r : Fin 512) (l : Fin 1024) :
    (outsAt0 m c t.val t.isLt).2.2.1 (ix2 r l)
      = mixed (bX m c t) (bSh m c t) (bSc m c t) (bW m c t) (bC m c t) (before m c t) r l := by
  by_cases h0 : t.val % 16 = 0
  · rw [outsAt0_A m c t h0]
    frame_out
    refine (pay14_at (bX m c t) (bSh m c t) (bSc m c t) (bW m c t) _ _ _ r l _ (bC m c t) (fun d k => ?_) (fun d k => ?_) (fun d k => ?_)).trans ?_
    · pointwise
    · pointwise
    · pointwise
    · congr 1
      funext b k
      rw [View.readCov_eq_canon', View.canon_cons_unit_lit]
      · unfold before past
        rw [if_pos (by omega)]
        pointwise [k0_pay2]
      · intro a; fin_cases a <;> rfl
  · rw [outsAt0_B m c t h0]
    frame_out
    refine (pay14_at (bX m c t) (bSh m c t) (bSc m c t) (bW m c t) _ _ _ r l _ (bC m c t) (fun d k => ?_) (fun d k => ?_) (fun d k => ?_)).trans ?_
    · pointwise
    · pointwise
    · pointwise
    · congr 1
      funext b k
      rw [← before_eq m c t h0]
      pointwise
      exact congrFun (Memref.IsWhole.read_unread _ _) _

/-- It is the gated convolution of the row it stands for. -/
theorem mixed_eq (c : Dev nD) (t : Fin cfg0.N) (r : Fin 512) (l : Fin 1024) (h : t.val / 16 < 2) (h' : t.val % 16 * 512 + r < 8192) :
    mixed (bX m c t) (bSh m c t) (bSc m c t) (bW m c t) (bC m c t) (before m c t) r l
      = mixedAt (aX m c) (aM m c) (aW m c) (aC m c) ⟨t.val / 16, h⟩ ⟨t.val % 16 * 512 + r, h'⟩ l := by
  have e1 : gate1 (bX m c t) (bSh m c t) (bSc m c t) (bW m c t) (before m c t) r l
      = past (gateN (aX m c) (aM m c) (aW m c) ⟨t.val / 16, h⟩ l) 1 (t.val % 16 * 512 + r) := by
    unfold gate1
    split
    · next hr => simp only [before, hr]; rfl
    · next hr =>
      rw [gate_eq m c t _ l h (by dsimp only; omega)]
      unfold past gateN
      rw [if_neg (by omega), dif_pos (by omega)]
      congr 1
      exact Fin.ext (by dsimp only; omega)
  have e2 : gate2 (bX m c t) (bSh m c t) (bSc m c t) (bW m c t) (before m c t) r l
      = past (gateN (aX m c) (aM m c) (aW m c) ⟨t.val / 16, h⟩ l) 2 (t.val % 16 * 512 + r) := by
    unfold gate2
    split
    · next hr => simp only [before, hr]; rfl
    · next hr =>
      split
      · next hr1 =>
        simp only [before, hr1, past]
        have e : t.val % 16 * 512 + 1 - 2 = t.val % 16 * 512 - 1 := by omega
        have e' : t.val % 16 * 512 + 1 < 2 ↔ t.val % 16 * 512 < 1 := by omega
        simp only [e, e']
        rfl
      · next hr1 =>
        rw [gate_eq m c t _ l h (by dsimp only; omega)]
        unfold past gateN
        rw [if_neg (by omega), dif_pos (by omega)]
        congr 1
        exact Fin.ext (by dsimp only; omega)
  unfold mixed mixedAt
  rw [e1, e2, cell_eq m c t r _ h h', gate_eq m c t r l h h']
  simp only [bC_at m c t]
end Cert.Kernel3Ideal.Inp
-- ==== Proof.InpWrite.lean ====
module

public import proofs.«01_k».proof.Proof.InpArray

@[expose] public section

set_option maxRecDepth 16384

/-! The projection call: what the four result arrays hold after the run. -/

noncomputable section
open Idealize.ShloMosaic Idealize.ShloMosaic.TcCoe Idealize.SL.Sem
open Idealize.ShloMosaic.Pipeline (Dat)
namespace Cert.Kernel3Ideal.Inp
open Cert.Kernel3Ideal Cert.Kernel3Ideal.Gen Cert.Ffn Cert.Inp
variable (m : (ℓ : Loc nD τ sig) → Buf (Elt Ideal) ℓ)

/-- A function of the projection's coordinates takes equal coordinates to equal values. -/
theorem at_congr {β : Type} {p : ℕ} (f : Fin 2 → Fin 8192 → Fin p → β) {n n' : Fin 2} {s s' : Fin 8192} {j j' : Fin p}
    (h1 : n.val = n'.val) (h2 : s.val = s'.val) (h3 : j.val = j'.val) : f n s j = f n' s' j' := by
  rw [Fin.ext h1, Fin.ext h2, Fin.ext h3]

set_option maxHeartbeats 1000000 in
/-- The queries' array after the run. -/
theorem final_q (c : Dev nD) : (dats m 0 c).arrAt 8 (cfgs 0).N = queries (aX m c) (aM m c) (aW m c) := by
  refine (dats m 0 c).arrAt_eq_of_covers 8 _ (by decide +kernel) fun t hf y => ?_
  have hN : t.val < 32 := lt_of_lt_of_eq t.isLt N_0
  have hy : (y 0 : ℕ) < 512 := (y 0).isLt
  blk_simp
  rw [after0_8, eq_ix2 y]
  refine (query_eq m c t (y 0) (y 1)).trans ?_
  refine (congrArg (· * Ideal.ofBits .f32 0x3E000000#32) (cell_eq m c t (y 0) _ (by omega) (by omega))).trans ?_
  unfold queries
  refine congrArg (· * Ideal.ofBits .f32 0x3E000000#32) (at_congr _ ?_ ?_ ?_)
  all_goals (blk_simp [idx t] <;> (try dsimp only) <;> omega)

set_option maxHeartbeats 1000000 in
/-- The keys' and values' array after the run. -/
theorem final_kv (c : Dev nD) : (dats m 0 c).arrAt 9 (cfgs 0).N = keyvals (aX m c) (aM m c) (aW m c) := by
  refine (dats m 0 c).arrAt_eq_of_covers 9 _ (by decide +kernel) fun t hf y => ?_
  have hN : t.val < 32 := lt_of_lt_of_eq t.isLt N_0
  have hy : (y 0 : ℕ) < 512 := (y 0).isLt
  blk_simp
  rw [after0_9, eq_ix2 y]
  refine (keyval_eq m c t (y 0) (y 1)).trans ?_
  refine (cell_eq m c t (y 0) _ (by omega) (by omega)).trans ?_
  unfold keyvals
  refine at_congr _ ?_ ?_ ?_
  all_goals (blk_simp [idx t] <;> (try dsimp only) <;> omega)

set_option maxHeartbeats 1000000 in
/-- The gated convolution's array after the run. -/
theorem final_s (c : Dev nD) : (dats m 0 c).arrAt 10 (cfgs 0).N = mixes (aX m c) (aM m c) (aW m c) (aC m c) := by
  refine (dats m 0 c).arrAt_eq_of_covers 10 _ (by decide +kernel) fun t hf y => ?_
  have hN : t.val < 32 := lt_of_lt_of_eq t.isLt N_0
  have hy : (y 0 : ℕ) < 512 := (y 0).isLt
  blk_simp
  rw [after0_10, eq_ix2 y]
  refine (mix_eq m c t (y 0) (y 1)).trans ?_
  refine (mixed_eq m c t (y 0) (y 1) (by omega) (by omega)).trans ?_
  unfold mixes
  refine at_congr _ ?_ ?_ ?_
  all_goals (blk_simp [idx t] <;> (try dsimp only) <;> omega)

set_option maxHeartbeats 1000000 in
/-- The last gated rows' array after the run. -/
theorem final_u (c : Dev nD) : (dats m 0 c).arrAt 11 (cfgs 0).N = tails (aX m c) (aM m c) (aW m c) := by
  refine (dats m 0 c).arrAt_eq_of_covers 11 _ (by decide +kernel) fun t hf y => ?_
  have hN : t.val < 32 := lt_of_lt_of_eq t.isLt N_0
  have h15 : t.val % 16 = 15 := by simpa using (flush0_11 t).mp hf
  have hy0 : (y 0 : ℕ) < 1 := (y 0).isLt
  have hy : (y 1 : ℕ) < 8 := (y 1).isLt
  blk_simp
  rw [after0_11, eq_ix3 y]
  refine (tail_eq m c t (y 0) (y 1) (y 2)).trans ?_
  refine (gate_eq m c t ⟨504 + (y 1).val, by omega⟩ (y 2) (by omega) (by dsimp only; omega)).trans ?_
  unfold tails
  refine at_congr _ ?_ ?_ ?_
  all_goals (blk_simp [idx t] <;> (try dsimp only) <;> omega)
end Cert.Kernel3Ideal.Inp
-- ==== Proof.InpRef.lean ====
module

public import proofs.«01_k».proof.Proof.InpFinal
public import proofs.«01_k».proof.Proof.Gen.Reference3Ideal.Read
public import Idealize.ShloMosaic.Lib.Pointwise

@[expose] public section

set_option maxRecDepth 16384

/-! The projection call: what the reference computes, read at an element over the extended reals. -/

noncomputable section
open Idealize.ShloMosaic Idealize.ShloMosaic.TcCoe Idealize.SL.Sem
namespace Cert.Reference3Ideal.Inp
open Cert.Reference3Ideal Cert.Reference3Ideal.Gen Cert.Reference3Ideal.Read Cert.Ffn Cert.Inp
open Cert.Kernel3Ideal.Inp (cellAt gateAt gateN mixedAt)
variable (x0 : FVec Ideal S2x8192x2048 .f32) (x1 : FVec Ideal S136x12288 .f32) (x2 : FVec Ideal S2048x4608 .bf16)
  (x3 : FVec Ideal S3x1024 .f32) (n : Fin 2) (s : Fin 8192)

/-- The normed, modulated row. -/
theorem row_at (l : Fin 2048) : val_main_v27 (F := Ideal) x0 x1 (ix3 n s l)
    = hrow (fun k => x0 (ix3 n s k)) (fun k => x1 (ix2 ⟨128 + n, by omega⟩ ⟨k, by omega⟩))
        (fun k => x1 (ix2 ⟨128 + n, by omega⟩ ⟨2048 + k, by omega⟩)) l := by
  pointwise [val_main_v27, val_main_v26, val_main_v25, val_main_v24, val_main_v23, val_main_v22, val_main_cst_4, val_main_v21,
    val_main_v20, val_main_v19, val_main_v18, val_main_v17, val_main_cst_3, val_main_v16, val_main_v15, val_main_v14,
    val_main_v13, val_main_cst_2, val_main_v12, val_main_v11, val_main_cst_1, val_main_v10, val_main_v9, val_main_v8,
    val_main_v7, val_main_v6, val_main_cst_0, val_main_v5, val_main_v4, val_main_cst, val_main_v3, val_main_v2, val_main_v1,
    val_main_v0, hrow, mean]

/-- Its projection. -/
theorem proj_at (j : Fin 4608) : val_main_v29 (F := Ideal) x0 x1 x2 (ix3 n s j) = cellAt x0 x1 x2 n s j := by
  pointwise [val_main_v29, val_main_v28, row_at, cellAt, proj]

/-- The gated value. -/
theorem gate_at (l : Fin 1024) : val_main_v38 (F := Ideal) x0 x1 x2 (ix3 n s l) = gateAt x0 x1 x2 n s l := by
  pointwise [val_main_v38, val_main_v33, val_main_v34, proj_at, gateAt]

/-- The gated values behind two rows of zeros. -/
theorem padded_at (t : Fin 8194) (l : Fin 1024) : val_main_v40 (F := Ideal) x0 x1 x2 (ix3 n t l)
    = if t.val < 2 then 0 else gateN x0 x1 x2 n l (t.val - 2) := by
  pointwise [val_main_v40, val_main_v39, val_main_cst_6, gate_at, gateN]
  by_cases h : t.val < 2
  · rw [dif_pos h, if_pos h]
  · rw [dif_neg h, if_neg h, dif_pos (by omega)]

/-- The short convolution, gated. -/
theorem mixed_at (l : Fin 1024) : val_main_v61 (F := Ideal) x0 x1 x2 x3 (ix3 n s l) = mixedAt x0 x1 x2 x3 n s l := by
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v43, val_main_v42, val_main_v41, val_main_v32, proj_at, padded_at, mixedAt, conv]
  have h1 : (1 + s.val < 2) = (s.val < 1) := by rw [eq_iff_iff]; omega
  have h2 : 1 + s.val - 2 = s.val - 1 := by omega
  have h3 : gateN x0 x1 x2 n l s.val = gateAt x0 x1 x2 n s l := dif_pos s.isLt
  rw [h2, h3]
  simp only [h1, past]

/-- The queries. -/
theorem q_at (R : Fin 16384) (l : Fin 1024) : val_main_v63 (F := Ideal) x0 x1 x2 (ix2 R l)
    = Cert.Kernel3Ideal.Inp.queries x0 x1 x2 (ix2 R l) := by
  pointwise [val_main_v63, val_main_v37, val_main_v36, val_main_v35, val_main_cst_5, val_main_v30, proj_at,
    Cert.Kernel3Ideal.Inp.queries]

/-- The keys and values. -/
theorem kv_at (R : Fin 16384) (l : Fin 512) : val_main_v64 (F := Ideal) x0 x1 x2 (ix2 R l)
    = Cert.Kernel3Ideal.Inp.keyvals x0 x1 x2 (ix2 R l) := by
  pointwise [val_main_v64, val_main_v31, proj_at, Cert.Kernel3Ideal.Inp.keyvals]

/-- The gated convolution. -/
theorem s_at (R : Fin 16384) (l : Fin 1024) : val_main_v65 (F := Ideal) x0 x1 x2 x3 (ix2 R l)
    = Cert.Kernel3Ideal.Inp.mixes x0 x1 x2 x3 (ix2 R l) := by
  pointwise [val_main_v65, val_main_v62, mixed_at, Cert.Kernel3Ideal.Inp.mixes]

/-- The last eight gated rows. -/
theorem u_at (b : Fin 8) (l : Fin 1024) : val_main_v66 (F := Ideal) x0 x1 x2 (ix3 n b l)
    = Cert.Kernel3Ideal.Inp.tails x0 x1 x2 (ix3 n b l) := by
  pointwise [val_main_v66, gate_at, Cert.Kernel3Ideal.Inp.tails]
end Cert.Reference3Ideal.Inp
-- ==== Proof.InpClaim.lean ====
module

public import proofs.«01_k».proof.Defs
public import proofs.«01_k».proof.Proof.Gen.Kernel3.Frame
public import proofs.«01_k».proof.Proof.Gen.Kernel3Ideal.Value
public import proofs.«01_k».proof.Proof.InpWrite
public import proofs.«01_k».proof.Proof.InpRef
public import Idealize.ShloMosaic.Lib.Claim
public import Idealize.ShloMosaic.Lib.Quiescent

@[expose] public section

set_option maxRecDepth 16384

/-! The projection call: the reference's four arrays are the kernel's, and the claims about the two. -/

noncomputable section
open Idealize.ShloMosaic Idealize.ShloMosaic.TcCoe Idealize.SL.Sem

namespace Cert.Proof.Inp

/-- The kernel leaves its arguments alone and its semaphores at zero. -/
theorem frame_p : Cert.quiescent_Kernel3 := fun m ρ _ => Cert.Kernel3.Gen.frame m ρ
/-- So does the kernel over the extended reals. -/
theorem frame_pi : Cert.quiescent_Kernel3Ideal := fun m ρ _ => Cert.Kernel3Ideal.Gen.frame m ρ
/-- So does the reference. -/
theorem frame_ri : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

/-- The ideal version rewrites no operation of the kernel. -/
theorem preserves : Cert.preserves_Kernel3_Kernel3Ideal := trivial

section
variable (x0 : FVec Ideal Cert.Kernel3Ideal.S2x8192x2048 .f32) (x1 : FVec Ideal Cert.Kernel3Ideal.S136x12288 .f32)
  (x2 : FVec Ideal Cert.Kernel3Ideal.S2048x4608 .bf16) (x3 : FVec Ideal Cert.Kernel3Ideal.S3x1024 .f32)

/-- The reference's queries are the kernel's. -/
theorem ref_q : Cert.Reference3Ideal.Read.val_main_v63 (F := Ideal) x0 x1 x2 = Cert.Kernel3Ideal.Inp.queries x0 x1 x2 := by
  funext i
  obtain ⟨r, l, rfl⟩ : ∃ (r : Fin 16384) (l : Fin 1024), i = ix2 r l := ⟨i 0, i 1, eq_ix2 i⟩
  exact Cert.Reference3Ideal.Inp.q_at x0 x1 x2 r l

/-- The reference's keys and values are the kernel's. -/
theorem ref_kv : Cert.Reference3Ideal.Read.val_main_v64 (F := Ideal) x0 x1 x2 = Cert.Kernel3Ideal.Inp.keyvals x0 x1 x2 := by
  funext i
  obtain ⟨r, l, rfl⟩ : ∃ (r : Fin 16384) (l : Fin 512), i = ix2 r l := ⟨i 0, i 1, eq_ix2 i⟩
  exact Cert.Reference3Ideal.Inp.kv_at x0 x1 x2 r l

/-- The reference's gated convolution is the kernel's. -/
theorem ref_s : Cert.Reference3Ideal.Read.val_main_v65 (F := Ideal) x0 x1 x2 x3 = Cert.Kernel3Ideal.Inp.mixes x0 x1 x2 x3 := by
  funext i
  obtain ⟨r, l, rfl⟩ : ∃ (r : Fin 16384) (l : Fin 1024), i = ix2 r l := ⟨i 0, i 1, eq_ix2 i⟩
  exact Cert.Reference3Ideal.Inp.s_at x0 x1 x2 x3 r l

/-- The reference's last gated rows are the kernel's. -/
theorem ref_u : Cert.Reference3Ideal.Read.val_main_v66 (F := Ideal) x0 x1 x2 = Cert.Kernel3Ideal.Inp.tails x0 x1 x2 := by
  funext i
  obtain ⟨n, b, l, rfl⟩ : ∃ (n : Fin 2) (b : Fin 8) (l : Fin 1024), i = ix3 n b l := ⟨i 0, i 1, i 2, eq_ix3 i⟩
  exact Cert.Reference3Ideal.Inp.u_at x0 x1 x2 n b l
end

/-- Kernel and reference end with equal results over the extended reals. -/
theorem algebraic : Cert.algebraic_Kernel3Ideal_Reference3Ideal := by
  intro m ρ m' ρ' _ hagree
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    (θ_run Cert.Kernel3Ideal.defs _ _).mono (fun _ h c =>
      ⟨(h c).1, (h c).2.1, (h c).2.2.1, (h c).2.2.2.1, (h c).2.2.2.2.2.2.2⟩)
      (Cert.Kernel3Ideal.Value.run_blocks (F := Ideal) m ρ), ?_⟩
  refine (θ_run Cert.Reference3Ideal.defs _ _).mono (fun _ h c =>
      ⟨(h c).1.trans ?_, (h c).2.1.trans ?_, (h c).2.2.1.trans ?_, (h c).2.2.2.1.trans ?_, (h c).2.2.2.2⟩)
    (Cert.Reference3Ideal.Value.run (F := Ideal) m' ρ')
  all_goals obtain ⟨h0, h1, h2, h3, h4, h5, h6⟩ := hagree c
  · refine Eq.trans ?_ (Cert.Kernel3Ideal.Inp.final_q m c).symm
    rw [Cert.Reference3Ideal.Read.val_main_v63_eq, h0, h1, h2]
    exact ref_q _ _ _
  · refine Eq.trans ?_ (Cert.Kernel3Ideal.Inp.final_kv m c).symm
    rw [Cert.Reference3Ideal.Read.val_main_v64_eq, h0, h1, h2]
    exact ref_kv _ _ _
  · refine Eq.trans ?_ (Cert.Kernel3Ideal.Inp.final_s m c).symm
    rw [Cert.Reference3Ideal.Read.val_main_v65_eq, h0, h1, h2, h3]
    exact ref_s _ _ _ _
  · refine Eq.trans ?_ (Cert.Kernel3Ideal.Inp.final_u m c).symm
    rw [Cert.Reference3Ideal.Read.val_main_v66_eq, h0, h1, h2]
    exact ref_u _ _ _

end Cert.Proof.Inp
-- ==== Proof.SmpBlock.lean ====
module

public import proofs.«01_k».proof.Proof.Gen.Kernel4Ideal.Skeleton
public import proofs.«01_k».proof.Proof.FfnMath
public import Idealize.ShloMosaic.Lib.Pointwise

@[expose] public section

set_option maxRecDepth 16384

/-! The sample rows' feed-forward call: what one grid point computes, read at an element over the extended reals. The
    block has 128 samples of 8 rows; the products see them as 1024 rows. -/

noncomputable section
open Idealize.ShloMosaic Idealize.ShloMosaic.TcCoe Idealize.SL.Sem
namespace Cert.Kernel4Ideal.Smp
open Cert.Kernel4Ideal Cert.Kernel4Ideal.Gen Cert.Ffn
variable (o x : FVec Ideal S128x8x2048 .f32) (g2 : FVec Ideal S128x1x2048 .f32) (h : FVec Ideal S1024x2048 .bf16)
    (wu : FVec Ideal S2048x512 .bf16) (wd : FVec Ideal S512x2048 .bf16) (lg lb : FVec Ideal S1x2048 .f32)

/-- What 512 hidden units add to row `r` of the block at lane `l`. -/
def part (r : Fin 1024) (l : Fin 2048) : EReal :=
  hiddenSum (n := 512) (fun d => h (ix2 r d)) (fun d k => wu (ix2 d k)) (fun k => wd (ix2 k l))

/-- The first step of the hidden axis stores its part. -/
theorem first_at (a : Fin 128) (b : Fin 8) (l : Fin 2048) :
    k0_pay1 (F := Ideal) h wu wd (ix3 a b l) = part h wu wd ⟨a * 8 + b, by omega⟩ l := by
  pointwise [k0_pay1, part, hiddenSum, hunit]

/-- A later step adds its part to what the block holds. -/
theorem later_at (a : Fin 128) (b : Fin 8) (l : Fin 2048) :
    k0_pay2 (F := Ideal) o h wu wd (ix3 a b l) = o (ix3 a b l) + part h wu wd ⟨a * 8 + b, by omega⟩ l := by
  pointwise [k0_pay2, part, hiddenSum, hunit]

/-- The last step: the norm of the residual row `b` of sample `a`, row `r` of the products. -/
def last (a : Fin 128) (b : Fin 8) (r : Fin 1024) (l : Fin 2048) : EReal :=
  lnorm (resid (fun k => x (ix3 a b k)) (fun k => g2 (ix3 a 0 k)) (fun k => o (ix3 a b k) + part h wu wd r k))
    (fun k => lg (ix2 0 k)) (fun k => lb (ix2 0 k)) l

section pieces
variable (oc xc : FVec Ideal S32x8x2048 .f32) (gc : FVec Ideal S32x1x2048 .f32) (a : Fin 32) (b : Fin 8) (l : Fin 2048)

/-- Samples 0 to 31 of the last step's block. -/
theorem quarter0_at (ho : ∀ k, oc (ix3 a b k) = o (ix3 ⟨a, by omega⟩ b k)) (hx : ∀ k, xc (ix3 a b k) = x (ix3 ⟨a, by omega⟩ b k))
    (hg : ∀ k, gc (ix3 a 0 k) = g2 (ix3 ⟨a, by omega⟩ 0 k)) :
    k0_pay7 (F := Ideal) (k0_pay5 h wu oc wd xc gc) (k0_pay6 h wu oc wd xc gc) lg lb (ix3 a b l)
      = last o x g2 h wu wd lg lb ⟨a, by omega⟩ b ⟨a * 8 + b, by omega⟩ l := by
  pointwise [k0_pay7, k0_pay6, k0_pay5, k0_pay4, last, lnorm, resid, mean, part, hiddenSum, hunit, ho, hx, hg]

/-- Samples 32 to 63. -/
theorem quarter1_at (ho : ∀ k, oc (ix3 a b k) = o (ix3 ⟨32 + a, by omega⟩ b k))
    (hx : ∀ k, xc (ix3 a b k) = x (ix3 ⟨32 + a, by omega⟩ b k)) (hg : ∀ k, gc (ix3 a 0 k) = g2 (ix3 ⟨32 + a, by omega⟩ 0 k)) :
    k0_pay10 (F := Ideal) (k0_pay8 (k0_pay4 h wu) oc wd xc gc) (k0_pay9 (k0_pay4 h wu) oc wd xc gc) lg lb (ix3 a b l)
      = last o x g2 h wu wd lg lb ⟨32 + a, by omega⟩ b ⟨256 + (a * 8 + b), by omega⟩ l := by
  pointwise [k0_pay10, k0_pay9, k0_pay8, k0_pay4, last, lnorm, resid, mean, part, hiddenSum, hunit, ho, hx, hg]

/-- Samples 64 to 95. -/
theorem quarter2_at (ho : ∀ k, oc (ix3 a b k) = o (ix3 ⟨64 + a, by omega⟩ b k))
    (hx : ∀ k, xc (ix3 a b k) = x (ix3 ⟨64 + a, by omega⟩ b k)) (hg : ∀ k, gc (ix3 a 0 k) = g2 (ix3 ⟨64 + a, by omega⟩ 0 k)) :
    k0_pay13 (F := Ideal) (k0_pay11 (k0_pay4 h wu) oc wd xc gc) (k0_pay12 (k0_pay4 h wu) oc wd xc gc) lg lb (ix3 a b l)
      = last o x g2 h wu wd lg lb ⟨64 + a, by omega⟩ b ⟨512 + (a * 8 + b), by omega⟩ l := by
  pointwise [k0_pay13, k0_pay12, k0_pay11, k0_pay4, last, lnorm, resid, mean, part, hiddenSum, hunit, ho, hx, hg]

/-- Samples 96 to 127. -/
theorem quarter3_at (ho : ∀ k, oc (ix3 a b k) = o (ix3 ⟨96 + a, by omega⟩ b k))
    (hx : ∀ k, xc (ix3 a b k) = x (ix3 ⟨96 + a, by omega⟩ b k)) (hg : ∀ k, gc (ix3 a 0 k) = g2 (ix3 ⟨96 + a, by omega⟩ 0 k)) :
    k0_pay3 (F := Ideal) (k0_pay14 (k0_pay4 h wu) oc wd) (k0_pay15 xc) gc lg lb (ix3 a b l)
      = last o x g2 h wu wd lg lb ⟨96 + a, by omega⟩ b ⟨768 + (a * 8 + b), by omega⟩ l := by
  pointwise [k0_pay3, k0_pay14, k0_pay15, k0_pay4, last, lnorm, resid, mean, part, hiddenSum, hunit, ho, hx, hg]
end pieces
end Cert.Kernel4Ideal.Smp
-- ==== Proof.SmpArray.lean ====
module

public import proofs.«01_k».proof.Proof.SmpBlock
public import proofs.«01_k».proof.Proof.Gen.Kernel4Ideal.Frame
public import Idealize.ShloMosaic.Lib.Pipeline.ValueKit
public import Idealize.ShloMosaic.Lib.Claim

@[expose] public section

set_option maxRecDepth 16384

/-! The sample rows' feed-forward call: what the result array holds after the run. -/

noncomputable section
open Idealize.ShloMosaic Idealize.ShloMosaic.TcCoe Idealize.SL.Sem
open Idealize.ShloMosaic.Pipeline (Dat)
namespace Cert.Kernel4Ideal.Smp
open Cert.Kernel4Ideal Cert.Kernel4Ideal.Gen Cert.Ffn
variable (m : (ℓ : Loc nD τ sig) → Buf (Elt Ideal) ℓ)

/-- Which block each window reads or writes at grid point `t`: only the two weights move. -/
theorem idx : ∀ t : Fin cfg0.N, win0_0.index t = ![0, 0] ∧ win0_1.index t = ![0, 0, 0] ∧ win0_2.index t = ![0, 0, 5]
    ∧ win0_3.index t = ![0, t.val] ∧ win0_4.index t = ![t.val, 0] ∧ win0_5.index t = ![0, 0] ∧ win0_6.index t = ![0, 0]
    ∧ win0_7.index t = ![0, 0, 0] :=
  (by decide +kernel : ∀ t : Fin grid0.N, _)

/-- The arguments as arrays. -/
abbrev aH (c : Dev nD) : FVec Ideal S1024x2048 .bf16 := m ((c : Thread nD τ).loc main_arg0)
abbrev aX (c : Dev nD) : FVec Ideal S128x8x2048 .f32 := m ((c : Thread nD τ).loc main_arg1)
abbrev aM (c : Dev nD) : FVec Ideal S136x12288 .f32 := m ((c : Thread nD τ).loc main_arg2)
abbrev aWu (c : Dev nD) : FVec Ideal S2048x8192 .bf16 := m ((c : Thread nD τ).loc main_arg3)
abbrev aWd (c : Dev nD) : FVec Ideal S8192x2048 .bf16 := m ((c : Thread nD τ).loc main_arg4)
abbrev aG (c : Dev nD) : FVec Ideal S2048 .f32 := m ((c : Thread nD τ).loc main_arg5)
abbrev aB (c : Dev nD) : FVec Ideal S2048 .f32 := m ((c : Thread nD τ).loc main_arg6)

/-- The blocks of point `t`, as arrays. -/
abbrev bH (c : Dev nD) (t : Fin cfg0.N) : FVec Ideal S1024x2048 .bf16 := iblk m c 0 t
abbrev bX (c : Dev nD) (t : Fin cfg0.N) : FVec Ideal S128x8x2048 .f32 := iblk m c 1 t
abbrev bG2 (c : Dev nD) (t : Fin cfg0.N) : FVec Ideal S128x1x2048 .f32 := X0_2 m c t
abbrev bWu (c : Dev nD) (t : Fin cfg0.N) : FVec Ideal S2048x512 .bf16 := iblk m c 3 t
abbrev bWd (c : Dev nD) (t : Fin cfg0.N) : FVec Ideal S512x2048 .bf16 := iblk m c 4 t
abbrev bG (c : Dev nD) (t : Fin cfg0.N) : FVec Ideal S1x2048 .f32 := iblk m c 5 t
abbrev bB (c : Dev nD) (t : Fin cfg0.N) : FVec Ideal S1x2048 .f32 := iblk m c 6 t

section blocks
variable (c : Dev nD) (t : Fin cfg0.N)

/-- The hidden rows are all in one block. -/
theorem bH_at (r : Fin 1024) (d : Fin 2048) : bH m c t (ix2 r d) = aH m c (ix2 r d) := by blk_ext [iblk, V, idx t]
/-- The columns of hidden step `t`. -/
theorem bWu_at (d : Fin 2048) (k : Fin 512) (h : t.val * 512 + k < 8192) :
    bWu m c t (ix2 d k) = aWu m c (ix2 d ⟨t.val * 512 + k, h⟩) := by blk_ext [iblk, V, idx t]
/-- The rows of hidden step `t`. -/
theorem bWd_at (k : Fin 512) (l : Fin 2048) (h : t.val * 512 + k < 8192) :
    bWd m c t (ix2 k l) = aWd m c (ix2 ⟨t.val * 512 + k, h⟩ l) := by blk_ext [iblk, V, idx t]
/-- The residual rows are all in one block. -/
theorem bX_at (a : Fin 128) (b : Fin 8) (k : Fin 2048) : bX m c t (ix3 a b k) = aX m c (ix3 a b k) := by
  blk_ext [iblk, V, idx t]
/-- The gates: the last sixth of the modulation rows. -/
theorem bG2_at (a : Fin 128) (k : Fin 2048) : bG2 m c t (ix3 a 0 k) = aM m c (ix2 ⟨a, by omega⟩ ⟨10240 + k, by omega⟩) := by
  unfold bG2 X0_2 Pipeline.Window.fill
  rw [dif_pos (moved0_2 t _)]
  unfold iblk
  entry_read
  blk_simp
  pointwise
  blk_ext [idx t]
/-- The norm's gain. -/
theorem bG_at (k : Fin 2048) : bG m c t (ix2 0 k) = aG m c (ix1 k) := by
  unfold bG iblk
  entry_read
  blk_simp
  pointwise
  blk_ext [idx t]
/-- The norm's bias. -/
theorem bB_at (k : Fin 2048) : bB m c t (ix2 0 k) = aB m c (ix1 k) := by
  unfold bB iblk
  entry_read
  blk_simp
  pointwise
  blk_ext [idx t]

/-- What point `t` adds is its stage of the whole sum. -/
theorem part_eq (r : Fin 1024) (l : Fin 2048) : part (bH m c t) (bWu m c t) (bWd m c t) r l
    = stage (fun d => aH m c (ix2 r d)) (fun d u => aWu m c (ix2 d u)) (fun u => aWd m c (ix2 u l)) t.val := by
  have hN : t.val < 16 := lt_of_lt_of_eq t.isLt N_0
  unfold stage part
  rw [dif_pos hN]
  simp only [bH_at m c t, fun d (k : Fin 512) => bWu_at m c t d k (by omega), fun (k : Fin 512) => bWd_at m c t k l (by omega)]
end blocks

/-- Before the last step the block holds the sum of the stages so far. -/
theorem held (c : Dev nD) (a : Fin 128) (b : Fin 8) (l : Fin 2048) : ∀ (n : ℕ) (hn : n < cfg0.N), n ≤ 14 →
    outsAt0 m c n hn (ix3 a b l) = ∑ s ∈ Finset.range (n + 1), stage (fun d => aH m c (ix2 ⟨a * 8 + b, by omega⟩ d))
      (fun d u => aWu m c (ix2 d u)) (fun u => aWd m c (ix2 u l)) s := by
  intro n
  induction n with
  | zero =>
    intro hn h14
    rw [outsAt0_A m c ⟨0, hn⟩ (by dsimp only) (by dsimp only; omega) (by dsimp only; omega)]
    frame_out
    rw [Finset.sum_range_one]
    exact (first_at _ _ _ a b l).trans (part_eq m c ⟨0, hn⟩ _ l)
  | succ n ih =>
    intro hn h14
    rw [outsAt0_B m c ⟨n + 1, hn⟩ (by dsimp only; omega) (by dsimp only; omega) (by dsimp only; omega)]
    frame_out
    rw [Finset.sum_range_succ]
    exact (later_at _ _ _ _ a b l).trans
      (congrArg₂ (· + ·) (ih (Nat.lt_of_succ_lt hn) (by omega)) (part_eq m c ⟨n + 1, hn⟩ _ l))

/-- The result array, from the arguments. -/
def result (H : FVec Ideal S1024x2048 .bf16) (X : FVec Ideal S128x8x2048 .f32) (M : FVec Ideal S136x12288 .f32)
    (Wu : FVec Ideal S2048x8192 .bf16) (Wd : FVec Ideal S8192x2048 .bf16) (g b : FVec Ideal S2048 .f32)
    (n : Fin 128) (s : Fin 8) (l : Fin 2048) : EReal :=
  row (fun d => H (ix2 ⟨n * 8 + s, by omega⟩ d)) (fun k => X (ix3 n s k)) (fun k => M (ix2 ⟨n, by omega⟩ ⟨10240 + k, by omega⟩))
    (fun d u => Wu (ix2 d u)) (fun u k => Wd (ix2 u k)) (fun k => g (ix1 k)) (fun k => b (ix1 k)) l

/-- The last step leaves the result's rows in the block. -/
theorem last_eq (c : Dev nD) (t : Fin cfg0.N) (h15 : t.val = 15) (a : Fin 128) (b : Fin 8) (r : Fin 1024) (hr : r.val = a * 8 + b)
    (l : Fin 2048) : last (outsAt0 m c (t.val - 1) (Nat.lt_of_le_of_lt (Nat.sub_le _ _) t.isLt)) (bX m c t) (bG2 m c t)
        (bH m c t) (bWu m c t) (bWd m c t) (bG m c t) (bB m c t) a b r l
      = result (aH m c) (aX m c) (aM m c) (aWu m c) (aWd m c) (aG m c) (aB m c) a b l := by
  rw [show r = ⟨a * 8 + b, by omega⟩ from Fin.ext hr]
  have hff : ∀ k, outsAt0 m c (t.val - 1) (Nat.lt_of_le_of_lt (Nat.sub_le _ _) t.isLt) (ix3 a b k)
        + part (bH m c t) (bWu m c t) (bWd m c t) ⟨a * 8 + b, by omega⟩ k
      = hiddenSum (fun d => aH m c (ix2 ⟨a * 8 + b, by omega⟩ d)) (fun d u => aWu m c (ix2 d u)) (fun u => aWd m c (ix2 u k)) := by
    intro k
    rw [held m c a b k _ _ (by omega), part_eq m c t, ← stages_eq, Finset.sum_range_succ _ 15]
    simp only [h15]
  unfold last result row
  simp only [hff, bX_at m c t, bG2_at m c t, bG_at m c t, bB_at m c t]

set_option maxHeartbeats 1000000 in
/-- The result array after the run. -/
theorem final (c : Dev nD) : (dats m 0 c).arrAt 7 (cfgs 0).N
    = fun i => result (aH m c) (aX m c) (aM m c) (aWu m c) (aWd m c) (aG m c) (aB m c) (i 0) (i 1) (i 2) := by
  refine (dats m 0 c).arrAt_eq_of_covers 7 _ (by decide +kernel) fun t hf y => ?_
  have hN : t.val < 16 := lt_of_lt_of_eq t.isLt N_0
  have h15 : t.val = 15 := by have := (flush0_7 t).mp hf; omega
  blk_simp
  rw [after0_7, outsAt0_C m c t (by omega) (by omega) (by omega)]
  frame_out
  have key : ∀ (a : Fin 128) (b : Fin 8) (r : Fin 1024) (l : Fin 2048), r.val = a * 8 + b → (y 0 : ℕ) = a → (y 1 : ℕ) = b →
      (y 2 : ℕ) = l → last (outsAt0 m c (t.val - 1) (Nat.lt_of_le_of_lt (Nat.sub_le _ _) t.isLt)) (bX m c t) (bG2 m c t)
          (bH m c t) (bWu m c t) (bWd m c t) (bG m c t) (bB m c t) a b r l
        = (fun i : S128x8x2048.Idx => result (aH m c) (aX m c) (aM m c) (aWu m c) (aWd m c) (aG m c) (aB m c) (i 0) (i 1) (i 2))
            (((cfg0.win 7).blk t).view.emb y) := by
    intro a b r l hr h0 h1 h2
    rw [last_eq m c t h15 a b r hr l]
    have hc : ∀ (n n' : Fin 128) (s s' : Fin 8) (l l' : Fin 2048), n = n' → s = s' → l = l' →
        result (aH m c) (aX m c) (aM m c) (aWu m c) (aWd m c) (aG m c) (aB m c) n s l
          = result (aH m c) (aX m c) (aM m c) (aWu m c) (aWd m c) (aG m c) (aB m c) n' s' l' := by
      intro n n' s s' l l' h1 h2 h3; rw [h1, h2, h3]
    refine hc _ _ _ _ _ _ (Fin.ext ?_) (Fin.ext ?_) (Fin.ext ?_)
    all_goals (blk_simp [idx t] <;> (try dsimp only) <;> omega)
  canon_tiles x h
  · rw [eq_ix3 x]
    refine (quarter3_at _ (bX m c t) (bG2 m c t) (bH m c t) (bWu m c t) (bWd m c t) (bG m c t) (bB m c t) _ _ _ (x 0) (x 1) (x 2)
      (fun k => ?_) (fun k => ?_) (fun k => ?_)).trans (key _ _ _ _ ?_ h0 h1 h2)
    · pointwise
    · pointwise
    · pointwise
    · dsimp only; omega
  · rw [eq_ix3 x]
    refine (quarter2_at _ (bX m c t) (bG2 m c t) (bH m c t) (bWu m c t) (bWd m c t) (bG m c t) (bB m c t) _ _ _ (x 0) (x 1) (x 2)
      (fun k => ?_) (fun k => ?_) (fun k => ?_)).trans (key _ _ _ _ ?_ h0 h1 h2)
    · pointwise
    · pointwise
    · pointwise
    · dsimp only; omega
  · rw [eq_ix3 x]
    refine (quarter1_at _ (bX m c t) (bG2 m c t) (bH m c t) (bWu m c t) (bWd m c t) (bG m c t) (bB m c t) _ _ _ (x 0) (x 1) (x 2)
      (fun k => ?_) (fun k => ?_) (fun k => ?_)).trans (key _ _ _ _ ?_ h0 h1 h2)
    · pointwise
    · pointwise
    · pointwise
    · dsimp only; omega
  · rw [eq_ix3 x]
    refine (quarter0_at _ (bX m c t) (bG2 m c t) (bH m c t) (bWu m c t) (bWd m c t) (bG m c t) (bB m c t) _ _ _ (x 0) (x 1) (x 2)
      (fun k => ?_) (fun k => ?_) (fun k => ?_)).trans (key _ _ _ _ ?_ h0 h1 h2)
    · pointwise
    · pointwise
    · pointwise
    · dsimp only
end Cert.Kernel4Ideal.Smp
-- ==== Proof.SmpRef.lean ====
module

public import proofs.«01_k».proof.Proof.FfnMath
public import proofs.«01_k».proof.Proof.Gen.Reference4Ideal.Read
public import Idealize.ShloMosaic.Lib.Pointwise

@[expose] public section

set_option maxRecDepth 16384

/-! The sample rows' feed-forward call: what the reference computes, read at an element over the extended reals. -/

noncomputable section
open Idealize.ShloMosaic Idealize.ShloMosaic.TcCoe Idealize.SL.Sem
namespace Cert.Reference4Ideal.Smp
open Cert.Reference4Ideal Cert.Reference4Ideal.Gen Cert.Reference4Ideal.Read Cert.Ffn
variable (x0 : FVec Ideal S1024x2048 .bf16) (x1 : FVec Ideal S128x8x2048 .f32) (x2 : FVec Ideal S136x12288 .f32)
  (x3 : FVec Ideal S2048x8192 .bf16) (x4 : FVec Ideal S8192x2048 .bf16) (x5 x6 : FVec Ideal S2048 .f32)
  (n : Fin 128) (s : Fin 8) (l : Fin 2048)

/-- The residual row before the norm. -/
theorem resid_at : val_main_v14 (F := Ideal) x0 x1 x2 x3 x4 (ix3 n s l)
    = resid (fun k => x1 (ix3 n s k)) (fun k => x2 (ix2 ⟨n, by omega⟩ ⟨10240 + k, by omega⟩))
        (fun k => hiddenSum (fun d => x0 (ix2 ⟨n * 8 + s, by omega⟩ d)) (fun d u => x3 (ix2 d u)) (fun u => x4 (ix2 u k))) l := by
  pointwise [val_main_v14, val_main_v13, val_main_v12, val_main_v11, val_main_v10, val_main_cst, val_main_v1, val_main_v0,
    val_main_v9, val_main_v8, val_main_v7, val_main_v6, val_main_call0_v0, val_main_call0_cst, val_main_v5, val_main_v4,
    val_main_v3, val_main_v2, hiddenSum, hunit, resid]

/-- The result. -/
theorem ref_at : val_main_v38 (F := Ideal) x0 x1 x2 x3 x4 x5 x6 (ix3 n s l)
    = row (fun d => x0 (ix2 ⟨n * 8 + s, by omega⟩ d)) (fun k => x1 (ix3 n s k))
        (fun k => x2 (ix2 ⟨n, by omega⟩ ⟨10240 + k, by omega⟩)) (fun d u => x3 (ix2 d u)) (fun u k => x4 (ix2 u k))
        (fun k => x5 (ix1 k)) (fun k => x6 (ix1 k)) l := by
  pointwise [val_main_v38, val_main_v37, val_main_v36, val_main_v35, val_main_v34, val_main_v33, val_main_v32,
    val_main_v31, val_main_v30, val_main_v29, val_main_v28, val_main_cst_4, val_main_v27, val_main_v26, val_main_v25,
    val_main_v24, val_main_cst_3, val_main_v23, val_main_v22, val_main_cst_2, val_main_v21, val_main_v20, val_main_v19,
    val_main_v18, val_main_v17, val_main_cst_1, val_main_v16, val_main_v15, val_main_cst_0, resid_at, row, lnorm, mean]
end Cert.Reference4Ideal.Smp
-- ==== Proof.SmpClaim.lean ====
module

public import proofs.«01_k».proof.Defs
public import proofs.«01_k».proof.Proof.Gen.Kernel4.Frame
public import proofs.«01_k».proof.Proof.Gen.Kernel4Ideal.Value
public import proofs.«01_k».proof.Proof.SmpArray
public import proofs.«01_k».proof.Proof.SmpRef
public import Idealize.ShloMosaic.Lib.Claim
public import Idealize.ShloMosaic.Lib.Quiescent

@[expose] public section

set_option maxRecDepth 16384

/-! The sample rows' feed-forward call: the reference's array is the kernel's, and the claims about the two. -/

noncomputable section
open Idealize.ShloMosaic Idealize.ShloMosaic.TcCoe Idealize.SL.Sem

namespace Cert.Proof.Smp

/-- The kernel returns, with no copy in flight. -/
theorem frame_p : Cert.quiescent_Kernel4 := fun m ρ _ => Cert.Kernel4.Gen.frame m ρ
/-- So does the kernel over the extended reals. -/
theorem frame_pi : Cert.quiescent_Kernel4Ideal := fun m ρ _ => Cert.Kernel4Ideal.Gen.frame m ρ
/-- So does the reference. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel asks nothing of its words that the idealized one does not. -/
theorem preserves : Cert.preserves_Kernel4_Kernel4Ideal := trivial

/-- The reference's result is the kernel's result array, element by element. -/
theorem ref_eq (x0 : FVec Ideal Cert.Kernel4Ideal.S1024x2048 .bf16) (x1 : FVec Ideal Cert.Kernel4Ideal.S128x8x2048 .f32)
    (x2 : FVec Ideal Cert.Kernel4Ideal.S136x12288 .f32) (x3 : FVec Ideal Cert.Kernel4Ideal.S2048x8192 .bf16)
    (x4 : FVec Ideal Cert.Kernel4Ideal.S8192x2048 .bf16) (x5 x6 : FVec Ideal Cert.Kernel4Ideal.S2048 .f32)
    (i : Cert.Kernel4Ideal.S128x8x2048.Idx) :
    Cert.Reference4Ideal.Read.val_main_v38 (F := Ideal) x0 x1 x2 x3 x4 x5 x6 i
      = Cert.Kernel4Ideal.Smp.result x0 x1 x2 x3 x4 x5 x6 (i 0) (i 1) (i 2) := by
  obtain ⟨n, s, l, rfl⟩ : ∃ (n : Fin 128) (s : Fin 8) (l : Fin 2048), i = ix3 n s l := ⟨i 0, i 1, i 2, eq_ix3 i⟩
  exact Cert.Reference4Ideal.Smp.ref_at x0 x1 x2 x3 x4 x5 x6 n s l

/-- Kernel and reference end with equal results over the extended reals. -/
theorem algebraic : Cert.algebraic_Kernel4Ideal_Reference4Ideal := by
  intro m ρ m' ρ' _ hagree
  refine ⟨fun c => (Cert.Kernel4Ideal.Gen.dats m 0 c).arrAt 7 Cert.Kernel4Ideal.cfg0.N,
    Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  refine Eq.trans ?_ (Cert.Kernel4Ideal.Smp.final m c).symm
  rw [Cert.Reference4Ideal.Read.val_main_v38_eq]
  obtain ⟨h0, h1, h2, h3, h4, h5, h6⟩ := hagree c
  rw [h0, h1, h2, h3, h4, h5, h6]
  funext i
  exact ref_eq _ _ _ _ _ _ _ i

end Cert.Proof.Smp
-- ==== Proof.OutMath.lean ====
module

public import proofs.«01_k».proof.Proof.InpMath

@[expose] public section

/-! The output projection call: the arithmetic of one row, shared by the kernel's side and the reference's. -/

noncomputable section
open Idealize.ShloMosaic
namespace Cert.Out
open Cert.Ffn Cert.Inp

/-- The attention row beside the convolution row. -/
def both (a s : Fin 1024 → EReal) (d : Fin 2048) : EReal :=
  if h : d.val < 1024 then a ⟨d.val, h⟩ else s ⟨d.val - 1024, by omega⟩

/-- The first result of a row: the norm of the residual and the gated projection. -/
def x1row (mix x g1 g b : Fin 2048 → EReal) : Fin 2048 → EReal := lnorm (resid x g1 mix) g b

/-- The second: the first normed again, scaled and shifted. -/
def h2row (mix x g1 sh sc g b : Fin 2048 → EReal) : Fin 2048 → EReal := hrow (x1row mix x g1 g b) sh sc

end Cert.Out
-- ==== Proof.OutBlock.lean ====
module

public import proofs.«01_k».proof.Proof.Gen.Kernel5Ideal.Skeleton
public import proofs.«01_k».proof.Proof.OutMath
public import Idealize.ShloMosaic.Lib.Pointwise

@[expose] public section

set_option maxRecDepth 16384

/-! The output projection call: what one grid point computes, read at an element over the extended reals. -/

noncomputable section
open Idealize.ShloMosaic Idealize.ShloMosaic.TcCoe Idealize.SL.Sem
namespace Cert.Kernel5Ideal.Out
open Cert.Kernel5Ideal Cert.Kernel5Ideal.Gen Cert.Ffn Cert.Inp Cert.Out

/-- The projection of row `r` of the block. -/
def mixcell (a s : FVec Ideal S512x1024 .bf16) (w : FVec Ideal S2048x2048 .bf16) (r : Fin 512) (l : Fin 2048) : EReal :=
  proj (both (fun k => a (ix2 r k)) (fun k => s (ix2 r k))) (fun d => w (ix2 d l))

/-- An even point keeps its projection. -/
theorem pay4_at (a s : FVec Ideal S512x1024 .bf16) (w : FVec Ideal S2048x2048 .bf16) (r : Fin 512) (l : Fin 2048) :
    k0_pay4 (F := Ideal) a s w (ix2 r l) = mixcell a s w r l := by
  pointwise [k0_pay4, mixcell, proj, both]

/-- The odd points compute as the even ones do: the projection, -/
theorem odd_mix : k0_pay9 (F := Ideal) = k0_pay4 := rfl
/-- the norm of rows 0 to 255, -/
theorem odd_norm : k0_pay10 (F := Ideal) = k0_pay5 := rfl
/-- their first result, -/
theorem odd_first : k0_pay11 (F := Ideal) = k0_pay6 := rfl
/-- their second, -/
theorem odd_first2 : k0_pay12 (F := Ideal) = k0_pay7 := rfl
/-- the first result of rows 256 to 511 -/
theorem odd_second : k0_pay13 (F := Ideal) = k0_pay8 := rfl
/-- and their second. -/
theorem odd_second2 : k0_pay3 (F := Ideal) = k0_pay2 := rfl

section cells
variable (x : FVec Ideal S1x512x2048 .f32) (g1 sh sc : FVec Ideal S1x1x2048 .f32) (mix : FVec Ideal S512x2048 .f32)
  (lg lb : FVec Ideal S1x2048 .f32)

/-- The first result of row `r` of the block, from the projection kept in `mix`. -/
def x1cell (r : Fin 512) : Fin 2048 → EReal :=
  x1row (fun k => mix (ix2 r k)) (fun k => x (ix3 0 r k)) (fun k => g1 (ix3 0 0 k)) (fun k => lg (ix2 0 k)) (fun k => lb (ix2 0 k))

/-- The second. -/
def h2cell (r : Fin 512) : Fin 2048 → EReal :=
  hrow (x1cell x g1 mix lg lb r) (fun k => sh (ix3 0 0 k)) (fun k => sc (ix3 0 0 k))

variable (xc : FVec Ideal S1x256x2048 .f32) (mc : FVec Ideal S256x2048 .f32) (a : Fin 1) (r : Fin 256) (l : Fin 2048)

/-- The first result, rows 0 to 255. -/
theorem pay6_at (hx : ∀ k, xc (ix3 0 r k) = x (ix3 0 ⟨r, by omega⟩ k)) (hm : ∀ k, mc (ix2 r k) = mix (ix2 ⟨r, by omega⟩ k)) :
    k0_pay6 (F := Ideal) (k0_pay5 xc g1 mc) lg lb (ix3 a r l) = x1cell x g1 mix lg lb ⟨r, by omega⟩ l := by
  obtain rfl : a = 0 := Subsingleton.elim _ _
  pointwise [k0_pay6, k0_pay5, x1cell, x1row, lnorm, resid, mean, hx, hm]

/-- The second, rows 0 to 255. -/
theorem pay7_at (hx : ∀ k, xc (ix3 0 r k) = x (ix3 0 ⟨r, by omega⟩ k)) (hm : ∀ k, mc (ix2 r k) = mix (ix2 ⟨r, by omega⟩ k)) :
    k0_pay7 (F := Ideal) (k0_pay5 xc g1 mc) lg lb sc sh (ix2 r l) = h2cell x g1 sh sc mix lg lb ⟨r, by omega⟩ l := by
  have e := fun a l => pay6_at x g1 mix lg lb xc mc a r l hx hm
  unfold k0_pay7
  generalize k0_pay6 (F := Ideal) (k0_pay5 xc g1 mc) lg lb = v at e ⊢
  pointwise [h2cell, hrow, mean, e]

/-- The first result, rows 256 to 511. -/
theorem pay8_at (hx : ∀ k, xc (ix3 0 r k) = x (ix3 0 ⟨256 + r, by omega⟩ k)) (hm : ∀ k, mc (ix2 r k) = mix (ix2 ⟨256 + r, by omega⟩ k)) :
    k0_pay8 (F := Ideal) xc g1 mc lg lb (ix3 a r l) = x1cell x g1 mix lg lb ⟨256 + r, by omega⟩ l := by
  obtain rfl : a = 0 := Subsingleton.elim _ _
  pointwise [k0_pay8, x1cell, x1row, lnorm, resid, mean, hx, hm]

/-- The second, rows 256 to 511. -/
theorem pay2_at (hx : ∀ k, xc (ix3 0 r k) = x (ix3 0 ⟨256 + r, by omega⟩ k)) (hm : ∀ k, mc (ix2 r k) = mix (ix2 ⟨256 + r, by omega⟩ k)) :
    k0_pay2 (F := Ideal) (k0_pay8 xc g1 mc lg lb) sc sh (ix2 r l) = h2cell x g1 sh sc mix lg lb ⟨256 + r, by omega⟩ l := by
  have e := fun a l => pay8_at x g1 mix lg lb xc mc a r l hx hm
  generalize k0_pay8 (F := Ideal) xc g1 mc lg lb = v at e ⊢
  pointwise [k0_pay2, h2cell, hrow, mean, e]
end cells
end Cert.Kernel5Ideal.Out
-- ==== Proof.OutFinal.lean ====
module

public import proofs.«01_k».proof.Proof.OutBlock
public import proofs.«01_k».proof.Proof.Gen.Kernel5Ideal.Frame
public import Idealize.ShloMosaic.Lib.Pipeline.ValueKit
public import Idealize.ShloMosaic.Lib.Claim

@[expose] public section

set_option maxRecDepth 16384

/-! The output projection call: the blocks a grid point reads, in terms of the arguments. -/

noncomputable section
open Idealize.ShloMosaic Idealize.ShloMosaic.TcCoe Idealize.SL.Sem
open Idealize.ShloMosaic.Pipeline (Dat)
namespace Cert.Kernel5Ideal.Out
open Cert.Kernel5Ideal Cert.Kernel5Ideal.Gen Cert.Ffn Cert.Inp Cert.Out
variable (m : (ℓ : Loc nD τ sig) → Buf (Elt Ideal) ℓ)

/-- Which block each window reads or writes at grid point `t`: the two inputs of the projection are a block ahead. -/
theorem idx : ∀ t : Fin cfg0.N, win0_0.index t = ![min t.val 31, 0] ∧ win0_1.index t = ![min t.val 31, 0]
    ∧ win0_2.index t = ![(t.val - 1) / 16, (t.val - 1) % 16, 0]
    ∧ win0_3.index t = ![128 + (t.val - 1) / 16, 0, 2] ∧ win0_4.index t = ![128 + (t.val - 1) / 16, 0, 3]
    ∧ win0_5.index t = ![128 + (t.val - 1) / 16, 0, 4]
    ∧ win0_6.index t = ![0, 0] ∧ win0_7.index t = ![0, 0] ∧ win0_8.index t = ![0, 0]
    ∧ win0_9.index t = ![(t.val - 1) / 16, (t.val - 1) % 16, 0] ∧ win0_10.index t = ![t.val - 1, 0] :=
  (by decide +kernel : ∀ t : Fin grid0.N, _)

/-- The first point stores no block: the second one's is the same, and is stored over it. -/
theorem flush_pos : ∀ t : Fin cfg0.N, ((cfg0.win 9).flush t = true ∨ (cfg0.win 10).flush t = true) → 1 ≤ t.val :=
  (by decide +kernel : ∀ t : Fin grid0.N, _)

/-- The arguments as arrays. -/
abbrev aA (c : Dev nD) : FVec Ideal S16384x1024 .bf16 := m ((c : Thread nD τ).loc main_arg0)
abbrev aS (c : Dev nD) : FVec Ideal S16384x1024 .bf16 := m ((c : Thread nD τ).loc main_arg1)
abbrev aX (c : Dev nD) : FVec Ideal S2x8192x2048 .f32 := m ((c : Thread nD τ).loc main_arg2)
abbrev aM (c : Dev nD) : FVec Ideal S136x12288 .f32 := m ((c : Thread nD τ).loc main_arg3)
abbrev aW (c : Dev nD) : FVec Ideal S2048x2048 .bf16 := m ((c : Thread nD τ).loc main_arg4)
abbrev aG (c : Dev nD) : FVec Ideal S2048 .f32 := m ((c : Thread nD τ).loc main_arg5)
abbrev aB (c : Dev nD) : FVec Ideal S2048 .f32 := m ((c : Thread nD τ).loc main_arg6)

/-- The blocks of point `t`, as arrays. -/
abbrev bA (c : Dev nD) (t : Fin cfg0.N) : FVec Ideal S512x1024 .bf16 := iblk m c 0 t
abbrev bS (c : Dev nD) (t : Fin cfg0.N) : FVec Ideal S512x1024 .bf16 := iblk m c 1 t
abbrev bX (c : Dev nD) (t : Fin cfg0.N) : FVec Ideal S1x512x2048 .f32 := iblk m c 2 t
abbrev bG1 (c : Dev nD) (t : Fin cfg0.N) : FVec Ideal S1x1x2048 .f32 := iblk m c 3 t
abbrev bSh (c : Dev nD) (t : Fin cfg0.N) : FVec Ideal S1x1x2048 .f32 := iblk m c 4 t
abbrev bSc (c : Dev nD) (t : Fin cfg0.N) : FVec Ideal S1x1x2048 .f32 := iblk m c 5 t
abbrev bW (c : Dev nD) (t : Fin cfg0.N) : FVec Ideal S2048x2048 .bf16 := iblk m c 6 t
abbrev bG (c : Dev nD) (t : Fin cfg0.N) : FVec Ideal S1x2048 .f32 := iblk m c 7 t
abbrev bB (c : Dev nD) (t : Fin cfg0.N) : FVec Ideal S1x2048 .f32 := iblk m c 8 t

section blocks
variable (c : Dev nD) (t : Fin cfg0.N)

/-- The attention rows of the block ahead. -/
theorem bA_at (r : Fin 512) (k : Fin 1024) (h : min t.val 31 * 512 + r < 16384) :
    bA m c t (ix2 r k) = aA m c (ix2 ⟨min t.val 31 * 512 + r, h⟩ k) := by blk_ext [iblk, V, idx t]
/-- The convolution rows of the block ahead. -/
theorem bS_at (r : Fin 512) (k : Fin 1024) (h : min t.val 31 * 512 + r < 16384) :
    bS m c t (ix2 r k) = aS m c (ix2 ⟨min t.val 31 * 512 + r, h⟩ k) := by blk_ext [iblk, V, idx t]
/-- The residual rows. -/
theorem bX_at (r : Fin 512) (k : Fin 2048) (h : (t.val - 1) / 16 < 2) (h' : (t.val - 1) % 16 * 512 + r < 8192) :
    bX m c t (ix3 0 r k) = aX m c (ix3 ⟨(t.val - 1) / 16, h⟩ ⟨(t.val - 1) % 16 * 512 + r, h'⟩ k) := by
  blk_ext [iblk, V, idx t]
/-- The gate: the third sixth of the sequence's modulation row. -/
theorem bG1_at (k : Fin 2048) (h : 128 + (t.val - 1) / 16 < 136) :
    bG1 m c t (ix3 0 0 k) = aM m c (ix2 ⟨128 + (t.val - 1) / 16, h⟩ ⟨4096 + k, by omega⟩) := by
  unfold bG1 iblk
  entry_read
  blk_simp
  pointwise
  blk_ext [idx t]
/-- The shift: the fourth sixth. -/
theorem bSh_at (k : Fin 2048) (h : 128 + (t.val - 1) / 16 < 136) :
    bSh m c t (ix3 0 0 k) = aM m c (ix2 ⟨128 + (t.val - 1) / 16, h⟩ ⟨6144 + k, by omega⟩) := by
  unfold bSh iblk
  entry_read
  blk_simp
  pointwise
  blk_ext [idx t]
/-- The scale: the fifth sixth. -/
theorem bSc_at (k : Fin 2048) (h : 128 + (t.val - 1) / 16 < 136) :
    bSc m c t (ix3 0 0 k) = aM m c (ix2 ⟨128 + (t.val - 1) / 16, h⟩ ⟨8192 + k, by omega⟩) := by
  unfold bSc iblk
  entry_read
  blk_simp
  pointwise
  blk_ext [idx t]
/-- The weight is all in one block. -/
theorem bW_at (d l : Fin 2048) : bW m c t (ix2 d l) = aW m c (ix2 d l) := by blk_ext [iblk, V, idx t]
/-- The norm's gain. -/
theorem bG_at (k : Fin 2048) : bG m c t (ix2 0 k) = aG m c (ix1 k) := by
  unfold bG iblk
  entry_read
  blk_simp
  pointwise
  blk_ext [idx t]
/-- The norm's bias. -/
theorem bB_at (k : Fin 2048) : bB m c t (ix2 0 k) = aB m c (ix1 k) := by
  unfold bB iblk
  entry_read
  blk_simp
  pointwise
  blk_ext [idx t]
end blocks

section arrays
variable (A S : FVec Ideal S16384x1024 .bf16) (X : FVec Ideal S2x8192x2048 .f32) (M : FVec Ideal S136x12288 .f32)
  (W : FVec Ideal S2048x2048 .bf16) (g b : FVec Ideal S2048 .f32)

/-- The projection of row `r`. -/
def mixAt (r : Fin 16384) (l : Fin 2048) : EReal :=
  proj (both (fun k => A (ix2 r k)) (fun k => S (ix2 r k))) (fun d => W (ix2 d l))

/-- The first result at row `s` of sequence `n`. -/
def x1At (n : Fin 2) (s : Fin 8192) : Fin 2048 → EReal :=
  x1row (mixAt A S W ⟨n * 8192 + s, by omega⟩) (fun k => X (ix3 n s k)) (fun k => M (ix2 ⟨128 + n, by omega⟩ ⟨4096 + k, by omega⟩))
    (fun k => g (ix1 k)) (fun k => b (ix1 k))

/-- The second. -/
def h2At (n : Fin 2) (s : Fin 8192) : Fin 2048 → EReal :=
  hrow (x1At A S X M W g b n s) (fun k => M (ix2 ⟨128 + n, by omega⟩ ⟨6144 + k, by omega⟩))
    (fun k => M (ix2 ⟨128 + n, by omega⟩ ⟨8192 + k, by omega⟩))

/-- The first result's array. -/
def firsts : FVec Ideal S2x8192x2048 .f32 := fun i => x1At A S X M W g b (i 0) (i 1) (i 2)

/-- The second's. -/
def seconds : FVec Ideal S16384x2048 .bf16 := fun i =>
  h2At A S X M W g b ⟨(i 0).val / 8192, by have : (i 0).val < 16384 := (i 0).isLt; omega⟩ ⟨(i 0).val % 8192, Nat.mod_lt _ (by decide)⟩ (i 1)
end arrays
end Cert.Kernel5Ideal.Out
-- ==== Proof.OutArray.lean ====
module

public import proofs.«01_k».proof.Proof.OutFinal

@[expose] public section

set_option maxRecDepth 16384

/-! The output projection call: the projection a point keeps for the next, and the blocks each point stores. -/

noncomputable section
open Idealize.ShloMosaic Idealize.ShloMosaic.TcCoe Idealize.SL.Sem
open Idealize.ShloMosaic.Pipeline (Dat)
namespace Cert.Kernel5Ideal.Out
open Cert.Kernel5Ideal Cert.Kernel5Ideal.Gen Cert.Ffn Cert.Inp Cert.Out
variable (m : (ℓ : Loc nD τ sig) → Buf (Elt Ideal) ℓ) (c : Dev nD) (t : Fin cfg0.N)

/-- What point `t` left in the scratch it writes: the first at an even point, the second at an odd one. -/
def kept (n : ℕ) (hn : n < cfg0.N) : FVec Ideal S512x2048 .f32 :=
  if n % 2 = 0 then (outsAt0 m c n hn).2.2.1 else (outsAt0 m c n hn).2.2.2

/-- It is the projection of the block the point read. -/
theorem kept_eq (r : Fin 512) (l : Fin 2048) :
    kept m c t.val t.isLt (ix2 r l) = mixcell (bA m c t) (bS m c t) (bW m c t) r l := by
  have hN : t.val < 33 := lt_of_lt_of_eq t.isLt N_0
  unfold kept
  by_cases h1 : t.val % 2 = 0
  · rw [if_pos h1]
    by_cases h0 : t.val % 33 = 0
    · rw [outsAt0_A m c t h0 h1 (by omega)]
      frame_out
      exact pay4_at _ _ _ r l
    · rw [outsAt0_C m c t h0 h1 (by omega)]
      frame_out
      exact pay4_at _ _ _ r l
  · rw [if_neg h1, outsAt0_B m c t (by omega) h1 (by omega)]
    frame_out
    rw [odd_mix]
    exact pay4_at _ _ _ r l

/-- What the point before left. -/
abbrev last : FVec Ideal S512x2048 .f32 := kept m c (t.val - 1) (Nat.lt_of_le_of_lt (Nat.sub_le _ _) t.isLt)

/-- The first result's block, after the first point. -/
theorem x1_eq (h : 1 ≤ t.val) (y : S1x512x2048.Idx) : (outsAt0 m c t.val t.isLt).1 y
    = x1cell (bX m c t) (bG1 m c t) (last m c t) (bG m c t) (bB m c t) (y 1) (y 2) := by
  have hN : t.val < 33 := lt_of_lt_of_eq t.isLt N_0
  have key : ∀ (r : Fin 512) (l : Fin 2048), (y 1 : ℕ) = r → (y 2 : ℕ) = l →
      x1cell (bX m c t) (bG1 m c t) (last m c t) (bG m c t) (bB m c t) r l
        = x1cell (bX m c t) (bG1 m c t) (last m c t) (bG m c t) (bB m c t) (y 1) (y 2) := by
    intro r l h1 h2
    rw [show r = y 1 from Fin.ext h1.symm, show l = y 2 from Fin.ext h2.symm]
  by_cases h1 : t.val % 2 = 0
  case' pos =>
    have e : last m c t = (outsAt0 m c (t.val - 1) (Nat.lt_of_le_of_lt (Nat.sub_le _ _) t.isLt)).2.2.2 := if_neg (by omega)
    rw [outsAt0_C m c t (by omega) h1 (by omega)]
    frame_out
  case' neg =>
    have e : last m c t = (outsAt0 m c (t.val - 1) (Nat.lt_of_le_of_lt (Nat.sub_le _ _) t.isLt)).2.2.1 := if_pos (by omega)
    rw [outsAt0_B m c t (by omega) h1 (by omega)]
    frame_out
    rw [odd_second, odd_norm, odd_first]
  all_goals
    canon_tiles x h
    · rw [eq_ix3 x]
      refine (pay8_at (bX m c t) (bG1 m c t) (last m c t) _ _ _ _ _ _ _ (fun k => ?_) (fun k => ?_)).trans (key _ _ h1 h2)
      · pointwise
      · rw [e]
        pointwise
        exact congrFun (Memref.IsWhole.read_unread _ _) _
    · rw [eq_ix3 x]
      refine (pay6_at (bX m c t) (bG1 m c t) (last m c t) _ _ _ _ _ _ _ (fun k => ?_) (fun k => ?_)).trans (key _ _ h1 h2)
      · pointwise
      · rw [e]
        pointwise
        exact congrFun (Memref.IsWhole.read_unread _ _) _

/-- The second's. -/
theorem h2_eq (h : 1 ≤ t.val) (y : S512x2048.Idx) : (outsAt0 m c t.val t.isLt).2.1 y
    = h2cell (bX m c t) (bG1 m c t) (bSh m c t) (bSc m c t) (last m c t) (bG m c t) (bB m c t) (y 0) (y 1) := by
  have hN : t.val < 33 := lt_of_lt_of_eq t.isLt N_0
  have key : ∀ (r : Fin 512) (l : Fin 2048), (y 0 : ℕ) = r → (y 1 : ℕ) = l →
      h2cell (bX m c t) (bG1 m c t) (bSh m c t) (bSc m c t) (last m c t) (bG m c t) (bB m c t) r l
        = h2cell (bX m c t) (bG1 m c t) (bSh m c t) (bSc m c t) (last m c t) (bG m c t) (bB m c t) (y 0) (y 1) := by
    intro r l h1 h2
    rw [show r = y 0 from Fin.ext h1.symm, show l = y 1 from Fin.ext h2.symm]
  by_cases h1 : t.val % 2 = 0
  case' pos =>
    have e : last m c t = (outsAt0 m c (t.val - 1) (Nat.lt_of_le_of_lt (Nat.sub_le _ _) t.isLt)).2.2.2 := if_neg (by omega)
    rw [outsAt0_C m c t (by omega) h1 (by omega)]
    frame_out
  case' neg =>
    have e : last m c t = (outsAt0 m c (t.val - 1) (Nat.lt_of_le_of_lt (Nat.sub_le _ _) t.isLt)).2.2.1 := if_pos (by omega)
    rw [outsAt0_B m c t (by omega) h1 (by omega)]
    frame_out
    rw [odd_second, odd_second2, odd_norm, odd_first2]
  all_goals
    canon_tiles x h
    · rw [eq_ix2 x]
      refine (pay2_at (bX m c t) (bG1 m c t) (bSh m c t) (bSc m c t) (last m c t) _ _ _ _ _ _ (fun k => ?_) (fun k => ?_)).trans (key _ _ h0 h1)
      · pointwise
      · rw [e]
        pointwise
        exact congrFun (Memref.IsWhole.read_unread _ _) _
    · rw [eq_ix2 x]
      refine (pay7_at (bX m c t) (bG1 m c t) (bSh m c t) (bSc m c t) (last m c t) _ _ _ _ _ _ (fun k => ?_) (fun k => ?_)).trans (key _ _ h0 h1)
      · pointwise
      · rw [e]
        pointwise
        exact congrFun (Memref.IsWhole.read_unread _ _) _
end Cert.Kernel5Ideal.Out
-- ==== Proof.OutWrite.lean ====
module

public import proofs.«01_k».proof.Proof.OutArray

@[expose] public section

set_option maxRecDepth 16384

/-! The output projection call: what the two result arrays hold after the run. -/

noncomputable section
open Idealize.ShloMosaic Idealize.ShloMosaic.TcCoe Idealize.SL.Sem
open Idealize.ShloMosaic.Pipeline (Dat)
namespace Cert.Kernel5Ideal.Out
open Cert.Kernel5Ideal Cert.Kernel5Ideal.Gen Cert.Ffn Cert.Inp Cert.Out
variable (m : (ℓ : Loc nD τ sig) → Buf (Elt Ideal) ℓ) (c : Dev nD) (t : Fin cfg0.N)

/-- What the point before kept is the projection of the rows of the block stored now. -/
theorem last_eq (ht : 1 ≤ t.val) (r : Fin 512) (l : Fin 2048) (h : (t.val - 1) / 16 < 2) (h' : (t.val - 1) % 16 * 512 + r < 8192) :
    last m c t (ix2 r l) = mixAt (aA m c) (aS m c) (aW m c)
      ⟨(⟨(t.val - 1) / 16, h⟩ : Fin 2) * 8192 + (⟨(t.val - 1) % 16 * 512 + r, h'⟩ : Fin 8192), by dsimp only; omega⟩ l := by
  have hN : t.val < 33 := lt_of_lt_of_eq t.isLt N_0
  refine (kept_eq m c ⟨t.val - 1, Nat.lt_of_le_of_lt (Nat.sub_le _ _) t.isLt⟩ r l).trans ?_
  unfold mixcell mixAt
  simp only [fun k => bA_at m c ⟨t.val - 1, Nat.lt_of_le_of_lt (Nat.sub_le _ _) t.isLt⟩ r k (by dsimp only; omega),
    fun k => bS_at m c ⟨t.val - 1, Nat.lt_of_le_of_lt (Nat.sub_le _ _) t.isLt⟩ r k (by dsimp only; omega), bW_at m c]
  have e : min (t.val - 1) 31 * 512 + r.val = (t.val - 1) / 16 * 8192 + ((t.val - 1) % 16 * 512 + r.val) := by omega
  simp only [e]

/-- The first result of a row of the block is that of the row it stands for. -/
theorem x1cell_eq (ht : 1 ≤ t.val) (r : Fin 512) (h : (t.val - 1) / 16 < 2) (h' : (t.val - 1) % 16 * 512 + r < 8192) :
    x1cell (bX m c t) (bG1 m c t) (last m c t) (bG m c t) (bB m c t) r
      = x1At (aA m c) (aS m c) (aX m c) (aM m c) (aW m c) (aG m c) (aB m c) ⟨(t.val - 1) / 16, h⟩ ⟨(t.val - 1) % 16 * 512 + r, h'⟩ := by
  unfold x1cell x1At
  simp only [fun k => last_eq m c t ht r k h h', fun k => bX_at m c t r k h h', fun k => bG1_at m c t k (by omega), bG_at m c t,
    bB_at m c t]

/-- So is the second. -/
theorem h2cell_eq (ht : 1 ≤ t.val) (r : Fin 512) (h : (t.val - 1) / 16 < 2) (h' : (t.val - 1) % 16 * 512 + r < 8192) :
    h2cell (bX m c t) (bG1 m c t) (bSh m c t) (bSc m c t) (last m c t) (bG m c t) (bB m c t) r
      = h2At (aA m c) (aS m c) (aX m c) (aM m c) (aW m c) (aG m c) (aB m c) ⟨(t.val - 1) / 16, h⟩ ⟨(t.val - 1) % 16 * 512 + r, h'⟩ := by
  unfold h2cell h2At
  rw [x1cell_eq m c t ht r h h']
  simp only [fun k => bSh_at m c t k (by omega), fun k => bSc_at m c t k (by omega)]

/-- A function of a row's coordinates takes equal coordinates to equal values. -/
theorem at_congr {β : Type} (f : Fin 2 → Fin 8192 → Fin 2048 → β) {n n' : Fin 2} {s s' : Fin 8192} {j j' : Fin 2048}
    (h1 : n.val = n'.val) (h2 : s.val = s'.val) (h3 : j.val = j'.val) : f n s j = f n' s' j' := by
  rw [Fin.ext h1, Fin.ext h2, Fin.ext h3]

set_option maxHeartbeats 1000000 in
/-- The first result's array after the run. -/
theorem final_x1 : (dats m 0 c).arrAt 9 (cfgs 0).N
    = firsts (aA m c) (aS m c) (aX m c) (aM m c) (aW m c) (aG m c) (aB m c) := by
  refine (dats m 0 c).arrAt_eq_of_covers 9 _ (by decide +kernel) fun t hf y => ?_
  have hN : t.val < 33 := lt_of_lt_of_eq t.isLt N_0
  have ht : 1 ≤ t.val := flush_pos t (Or.inl hf)
  have hy0 : (y 0 : ℕ) < 1 := (y 0).isLt
  have hy : (y 1 : ℕ) < 512 := (y 1).isLt
  blk_simp
  rw [after0_9]
  refine (x1_eq m c t ht y).trans ?_
  refine (congrFun (x1cell_eq m c t ht (y 1) (by omega) (by omega)) _).trans ?_
  unfold firsts
  refine at_congr _ ?_ ?_ ?_
  all_goals (blk_simp [idx t] <;> (try dsimp only) <;> omega)

set_option maxHeartbeats 1000000 in
/-- The second's. -/
theorem final_h2 : (dats m 0 c).arrAt 10 (cfgs 0).N
    = seconds (aA m c) (aS m c) (aX m c) (aM m c) (aW m c) (aG m c) (aB m c) := by
  refine (dats m 0 c).arrAt_eq_of_covers 10 _ (by decide +kernel) fun t hf y => ?_
  have hN : t.val < 33 := lt_of_lt_of_eq t.isLt N_0
  have ht : 1 ≤ t.val := flush_pos t (Or.inr hf)
  have hy : (y 0 : ℕ) < 512 := (y 0).isLt
  blk_simp
  rw [after0_10]
  refine (h2_eq m c t ht y).trans ?_
  refine (congrFun (h2cell_eq m c t ht (y 0) (by omega) (by omega)) _).trans ?_
  unfold seconds
  refine at_congr _ ?_ ?_ ?_
  all_goals (blk_simp [idx t] <;> (try dsimp only) <;> omega)
end Cert.Kernel5Ideal.Out
-- ==== Proof.OutRef.lean ====
module

public import proofs.«01_k».proof.Proof.OutFinal
public import proofs.«01_k».proof.Proof.Gen.Reference5Ideal.Read
public import Idealize.ShloMosaic.Lib.Pointwise

@[expose] public section

set_option maxRecDepth 16384

/-! The output projection call: what the reference computes, read at an element over the extended reals. -/

noncomputable section
open Idealize.ShloMosaic Idealize.ShloMosaic.TcCoe Idealize.SL.Sem
namespace Cert.Reference5Ideal.Out
open Cert.Reference5Ideal Cert.Reference5Ideal.Gen Cert.Reference5Ideal.Read Cert.Ffn Cert.Inp Cert.Out
open Cert.Kernel5Ideal.Out (mixAt x1At h2At)
variable (x0 x1 : FVec Ideal S16384x1024 .bf16) (x2 : FVec Ideal S2x8192x2048 .f32) (x3 : FVec Ideal S136x12288 .f32)
  (x4 : FVec Ideal S2048x2048 .bf16) (x5 x6 : FVec Ideal S2048 .f32) (n : Fin 2) (s : Fin 8192) (l : Fin 2048)

/-- The projection. -/
theorem mix_at : val_main_v11 (F := Ideal) x0 x1 x4 (ix3 n s l) = mixAt x0 x1 x4 ⟨n * 8192 + s, by omega⟩ l := by
  pointwise [val_main_v11, val_main_v10, val_main_v9, val_main_v8, val_main_v7, val_main_v6, val_main_v5, mixAt, proj, both]

/-- The residual row before the norm. -/
theorem resid_at : val_main_v16 (F := Ideal) x0 x1 x2 x3 x4 (ix3 n s l)
    = resid (fun k => x2 (ix3 n s k)) (fun k => x3 (ix2 ⟨128 + n, by omega⟩ ⟨4096 + k, by omega⟩))
        (mixAt x0 x1 x4 ⟨n * 8192 + s, by omega⟩) l := by
  pointwise [val_main_v16, val_main_v15, val_main_v14, val_main_v13, val_main_v12, val_main_cst, val_main_v2, val_main_v1,
    val_main_v0, mix_at, resid]

/-- The first result. -/
theorem x1_at : val_main_v40 (F := Ideal) x0 x1 x2 x3 x4 x5 x6 (ix3 n s l) = x1At x0 x1 x2 x3 x4 x5 x6 n s l := by
  pointwise [val_main_v40, val_main_v39, val_main_v38, val_main_v37, val_main_v36, val_main_v35, val_main_v34, val_main_v33,
    val_main_v32, val_main_v31, val_main_v30, val_main_cst_4, val_main_v29, val_main_v28, val_main_v27, val_main_v26,
    val_main_cst_3, val_main_v25, val_main_v24, val_main_cst_2, val_main_v23, val_main_v22, val_main_v21, val_main_v20,
    val_main_v19, val_main_cst_1, val_main_v18, val_main_v17, val_main_cst_0, resid_at, x1At, x1row, lnorm, mean]
/-- The second, before it is laid out by rows. -/
theorem h2_at : val_main_v64 (F := Ideal) x0 x1 x2 x3 x4 x5 x6 (ix3 n s l) = h2At x0 x1 x2 x3 x4 x5 x6 n s l := by
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v41,
    val_main_cst_10, val_main_cst_9, val_main_cst_8, val_main_cst_7, val_main_cst_6, val_main_cst_5, val_main_v4,
    val_main_v3, val_main_v1, val_main_v0, x1_at, h2At, hrow, mean]
  have e1 : 4096 + (4096 + l.val) = 8192 + l.val := by omega
  have e2 : 4096 + (2048 + l.val) = 6144 + l.val := by omega
  simp only [e1, e2]

/-- The second. -/
theorem rows_at (r : Fin 16384) : val_main_v66 (F := Ideal) x0 x1 x2 x3 x4 x5 x6 (ix2 r l)
    = h2At x0 x1 x2 x3 x4 x5 x6 ⟨r.val / 8192, by omega⟩ ⟨r.val % 8192, Nat.mod_lt _ (by decide)⟩ l := by
  pointwise [val_main_v66, val_main_v65, h2_at]
end Cert.Reference5Ideal.Out
-- ==== Proof.OutClaim.lean ====
module

public import proofs.«01_k».proof.Defs
public import proofs.«01_k».proof.Proof.Gen.Kernel5.Frame
public import proofs.«01_k».proof.Proof.Gen.Kernel5Ideal.Value
public import proofs.«01_k».proof.Proof.OutWrite
public import proofs.«01_k».proof.Proof.OutRef
public import Idealize.ShloMosaic.Lib.Claim
public import Idealize.ShloMosaic.Lib.Quiescent

@[expose] public section

set_option maxRecDepth 16384

/-! The output projection call: the reference's two arrays are the kernel's, and the claims about the two. -/

noncomputable section
open Idealize.ShloMosaic Idealize.ShloMosaic.TcCoe Idealize.SL.Sem

namespace Cert.Proof.Out

/-- The kernel leaves its arguments alone and its semaphores at zero. -/
theorem frame_p : Cert.quiescent_Kernel5 := fun m ρ _ => Cert.Kernel5.Gen.frame m ρ
/-- So does the kernel over the extended reals. -/
theorem frame_pi : Cert.quiescent_Kernel5Ideal := fun m ρ _ => Cert.Kernel5Ideal.Gen.frame m ρ
/-- So does the reference. -/
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The ideal version rewrites no operation of the kernel. -/
theorem preserves : Cert.preserves_Kernel5_Kernel5Ideal := trivial

section
variable (x0 x1 : FVec Ideal Cert.Kernel5Ideal.S16384x1024 .bf16) (x2 : FVec Ideal Cert.Kernel5Ideal.S2x8192x2048 .f32)
  (x3 : FVec Ideal Cert.Kernel5Ideal.S136x12288 .f32) (x4 : FVec Ideal Cert.Kernel5Ideal.S2048x2048 .bf16)
  (x5 x6 : FVec Ideal Cert.Kernel5Ideal.S2048 .f32)

/-- The reference's first result is the kernel's. -/
theorem ref_x1 : Cert.Reference5Ideal.Read.val_main_v40 (F := Ideal) x0 x1 x2 x3 x4 x5 x6
    = Cert.Kernel5Ideal.Out.firsts x0 x1 x2 x3 x4 x5 x6 := by
  funext i
  obtain ⟨n, s, l, rfl⟩ : ∃ (n : Fin 2) (s : Fin 8192) (l : Fin 2048), i = ix3 n s l := ⟨i 0, i 1, i 2, eq_ix3 i⟩
  exact Cert.Reference5Ideal.Out.x1_at x0 x1 x2 x3 x4 x5 x6 n s l

/-- So is its second. -/
theorem ref_h2 : Cert.Reference5Ideal.Read.val_main_v66 (F := Ideal) x0 x1 x2 x3 x4 x5 x6
    = Cert.Kernel5Ideal.Out.seconds x0 x1 x2 x3 x4 x5 x6 := by
  funext i
  obtain ⟨r, l, rfl⟩ : ∃ (r : Fin 16384) (l : Fin 2048), i = ix2 r l := ⟨i 0, i 1, eq_ix2 i⟩
  exact Cert.Reference5Ideal.Out.rows_at x0 x1 x2 x3 x4 x5 x6 l r
end

/-- Kernel and reference end with equal results over the extended reals. -/
theorem algebraic : Cert.algebraic_Kernel5Ideal_Reference5Ideal := by
  intro m ρ m' ρ' _ hagree
  refine ⟨fun c => (Cert.Kernel5Ideal.Gen.dats m 0 c).arrAt 9 Cert.Kernel5Ideal.cfg0.N,
    fun c => (Cert.Kernel5Ideal.Gen.dats m 0 c).arrAt 10 Cert.Kernel5Ideal.cfg0.N,
    Cert.Kernel5Ideal.Value.run_blocks (F := Ideal) m ρ, ?_⟩
  refine (θ_run Cert.Reference5Ideal.defs _ _).mono (fun _ h c =>
      ⟨(h c).1.trans ?_, (h c).2.1.trans ?_, (h c).2.2⟩)
    (Cert.Reference5Ideal.Value.run (F := Ideal) m' ρ')
  all_goals obtain ⟨h0, h1, h2, h3, h4, h5, h6⟩ := hagree c
  · refine Eq.trans ?_ (Cert.Kernel5Ideal.Out.final_x1 m c).symm
    rw [Cert.Reference5Ideal.Read.val_main_v40_eq, h0, h1, h2, h3, h4, h5, h6]
    exact ref_x1 _ _ _ _ _ _ _
  · refine Eq.trans ?_ (Cert.Kernel5Ideal.Out.final_h2 m c).symm
    rw [Cert.Reference5Ideal.Read.val_main_v66_eq, h0, h1, h2, h3, h4, h5, h6]
    exact ref_h2 _ _ _ _ _ _ _

end Cert.Proof.Out
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.AttFrame
public import proofs.«01_k».proof.Proof.AttClaim
public import proofs.«01_k».proof.Proof.FfnClaim
public import proofs.«01_k».proof.Proof.InpClaim
public import proofs.«01_k».proof.Proof.SmpClaim
public import proofs.«01_k».proof.Proof.OutClaim
public import proofs.«01_k».proof.Proof.Gen.Pre_finite_logits
public import proofs.«01_k».proof.Proof.Gen.KernelIdeal.Value
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_logits.Gen.facts,
    Att.frame_p, Att.frame_pi, Att.frame_pi_pre, Att.frame_ri, Att.frame_ri_pre, Ffn.frame_p, Ffn.frame_pi, Ffn.frame_ri,
    Inp.frame_p, Inp.frame_pi, Inp.frame_ri, Smp.frame_p, Smp.frame_pi, Smp.frame_ri, Out.frame_p, Out.frame_pi, Out.frame_ri,
    Att.preserves, Att.algebraic, Ffn.preserves, Ffn.algebraic, Inp.preserves, Inp.algebraic,
    Smp.preserves, Smp.algebraic, Out.preserves, Out.algebraic⟩

end Cert.Proof

end
